-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11)
      ∧ r.2.mem ((c.tc : Thread Cert.Back.nD Cert.Back.τ).loc Cert.Back.main_arg12) = m ((c.tc : Thread Cert.Back.nD Cert.Back.τ).loc Cert.Back.main_arg12)
      ∧ r.2.mem ((c.tc : Thread Cert.Back.nD Cert.Back.τ).loc Cert.Back.main_arg13) = m ((c.tc : Thread Cert.Back.nD Cert.Back.τ).loc Cert.Back.main_arg13))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
      ∧ r.2.mem ((c.tc : Thread Cert.BackIdeal.nD Cert.BackIdeal.τ).loc Cert.BackIdeal.main_arg13) = m ((c.tc : Thread Cert.BackIdeal.nD Cert.BackIdeal.τ).loc Cert.BackIdeal.main_arg13))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10)
      ∧ r.2.mem ((c.tc : Thread Cert.BackRefIdeal.nD Cert.BackRefIdeal.τ).loc Cert.BackRefIdeal.main_arg11) = m ((c.tc : Thread Cert.BackRefIdeal.nD Cert.BackRefIdeal.τ).loc Cert.BackRefIdeal.main_arg11)
      ∧ r.2.mem ((c.tc : Thread Cert.BackRefIdeal.nD Cert.BackRefIdeal.τ).loc Cert.BackRefIdeal.main_arg12) = m ((c.tc : Thread Cert.BackRefIdeal.nD Cert.BackRefIdeal.τ).loc Cert.BackRefIdeal.main_arg12)
      ∧ r.2.mem ((c.tc : Thread Cert.BackRefIdeal.nD Cert.BackRefIdeal.τ).loc Cert.BackRefIdeal.main_arg13) = m ((c.tc : Thread Cert.BackRefIdeal.nD Cert.BackRefIdeal.τ).loc Cert.BackRefIdeal.main_arg13))
      ∧ r.2.sem = fun _ => 0)

def preserves_Kernel_KernelIdeal : Prop :=
  IdealRules.named_const.Statement Cert.KernelIdeal.κ "mask" .f32 0xF149F2CA#32 ⊥

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
      ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)) →
    ∃ (v0 : (c : Dev Cert.FrontIdeal.nD) → Buf (Elt Ideal) ((c.tc : Thread Cert.FrontIdeal.nD Cert.FrontIdeal.τ).loc Cert.FrontIdeal.main_v16_0)) (v1 : (c : Dev Cert.FrontIdeal.nD) → Buf (Elt Ideal) ((c.tc : Thread Cert.FrontIdeal.nD Cert.FrontIdeal.τ).loc Cert.FrontIdeal.main_v16_1)) (v2 : (c : Dev Cert.FrontIdeal.nD) → Buf (Elt Ideal) ((c.tc : Thread Cert.FrontIdeal.nD Cert.FrontIdeal.τ).loc Cert.FrontIdeal.main_v16_2)) (v3 : (c : Dev Cert.FrontIdeal.nD) → Buf (Elt Ideal) ((c.tc : Thread Cert.FrontIdeal.nD Cert.FrontIdeal.τ).loc Cert.FrontIdeal.main_v16_3)) (v4 : (c : Dev Cert.FrontIdeal.nD) → Buf (Elt Ideal) ((c.tc : Thread Cert.FrontIdeal.nD Cert.FrontIdeal.τ).loc Cert.FrontIdeal.main_v16_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v16_0) = v0 c
          ∧ r.2.mem ((c.tc : Thread Cert.FrontIdeal.nD Cert.FrontIdeal.τ).loc Cert.FrontIdeal.main_v16_1) = v1 c
          ∧ r.2.mem ((c.tc : Thread Cert.FrontIdeal.nD Cert.FrontIdeal.τ).loc Cert.FrontIdeal.main_v16_2) = v2 c
          ∧ r.2.mem ((c.tc : Thread Cert.FrontIdeal.nD Cert.FrontIdeal.τ).loc Cert.FrontIdeal.main_v16_3) = v3 c
          ∧ r.2.mem ((c.tc : Thread Cert.FrontIdeal.nD Cert.FrontIdeal.τ).loc Cert.FrontIdeal.main_v16_4) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v204) = v0 c
          ∧ r.2.mem ((c.tc : Thread Cert.FrontRefIdeal.nD Cert.FrontRefIdeal.τ).loc Cert.FrontRefIdeal.main_v209) = v1 c
          ∧ r.2.mem ((c.tc : Thread Cert.FrontRefIdeal.nD Cert.FrontRefIdeal.τ).loc Cert.FrontRefIdeal.main_v210) = v2 c
          ∧ r.2.mem ((c.tc : Thread Cert.FrontRefIdeal.nD Cert.FrontRefIdeal.τ).loc Cert.FrontRefIdeal.main_v211) = v3 c
          ∧ r.2.mem ((c.tc : Thread Cert.FrontRefIdeal.nD Cert.FrontRefIdeal.τ).loc Cert.FrontRefIdeal.main_v208) = v4 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8)
          ∧ r.2.mem ((c.tc : Thread Cert.FrontRefIdeal.nD Cert.FrontRefIdeal.τ).loc Cert.FrontRefIdeal.main_arg9) = m' ((c.tc : Thread Cert.FrontRefIdeal.nD Cert.FrontRefIdeal.τ).loc Cert.FrontRefIdeal.main_arg9))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
      ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
      ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)
      ∧ m' ((c.tc : Thread Cert.BackRefIdeal.nD Cert.BackRefIdeal.τ).loc Cert.BackRefIdeal.main_arg13) = m ((c.tc : Thread Cert.BackIdeal.nD Cert.BackIdeal.τ).loc Cert.BackIdeal.main_arg13)) →
    ∃ (v0 : (c : Dev Cert.BackIdeal.nD) → Buf (Elt Ideal) ((c.tc : Thread Cert.BackIdeal.nD Cert.BackIdeal.τ).loc Cert.BackIdeal.main_v9)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v9) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
          ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
          ∧ r.2.mem ((c.tc : Thread Cert.BackIdeal.nD Cert.BackIdeal.τ).loc Cert.BackIdeal.main_arg13) = m ((c.tc : Thread Cert.BackIdeal.nD Cert.BackIdeal.τ).loc Cert.BackIdeal.main_arg13))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v172) = v0 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10)
          ∧ r.2.mem ((c.tc : Thread Cert.BackRefIdeal.nD Cert.BackRefIdeal.τ).loc Cert.BackRefIdeal.main_arg11) = m' ((c.tc : Thread Cert.BackRefIdeal.nD Cert.BackRefIdeal.τ).loc Cert.BackRefIdeal.main_arg11)
          ∧ r.2.mem ((c.tc : Thread Cert.BackRefIdeal.nD Cert.BackRefIdeal.τ).loc Cert.BackRefIdeal.main_arg12) = m' ((c.tc : Thread Cert.BackRefIdeal.nD Cert.BackRefIdeal.τ).loc Cert.BackRefIdeal.main_arg12)
          ∧ r.2.mem ((c.tc : Thread Cert.BackRefIdeal.nD Cert.BackRefIdeal.τ).loc Cert.BackRefIdeal.main_arg13) = m' ((c.tc : Thread Cert.BackRefIdeal.nD Cert.BackRefIdeal.τ).loc Cert.BackRefIdeal.main_arg13))

def Claim : Prop :=
  ∃ (hKernel : Cert.Kernel.Facts) (hKernelIdeal : Cert.KernelIdeal.Facts) (hRefIdeal : Cert.RefIdeal.Facts) (hFront : Cert.Front.Facts) (hFrontIdeal : Cert.FrontIdeal.Facts) (hFrontRefIdeal : Cert.FrontRefIdeal.Facts) (hBack : Cert.Back.Facts) (hBackIdeal : Cert.BackIdeal.Facts) (hBackRefIdeal : Cert.BackRefIdeal.Facts),
    quiescent_Kernel (hKernel := hKernel)
    ∧ quiescent_KernelIdeal (hKernelIdeal := hKernelIdeal)
    ∧ quiescent_RefIdeal (hRefIdeal := hRefIdeal)
    ∧ quiescent_Front (hFront := hFront)
    ∧ quiescent_FrontIdeal (hFrontIdeal := hFrontIdeal)
    ∧ quiescent_FrontRefIdeal (hFrontRefIdeal := hFrontRefIdeal)
    ∧ quiescent_Back (hBack := hBack)
    ∧ quiescent_BackIdeal (hBackIdeal := hBackIdeal)
    ∧ quiescent_BackRefIdeal (hBackRefIdeal := hBackRefIdeal)
    ∧ preserves_Kernel_KernelIdeal
    ∧ preserves_Front_FrontIdeal
    ∧ algebraic_FrontIdeal_FrontRefIdeal (hFrontIdeal := hFrontIdeal) (hFrontRefIdeal := hFrontRefIdeal)
    ∧ preserves_Back_BackIdeal
    ∧ algebraic_BackIdeal_BackRefIdeal (hBackIdeal := hBackIdeal) (hBackRefIdeal := hBackRefIdeal)
-- ==== Kernel.lean ====
abbrev S4x4352x512 : Shape := ⟨3, ![4, 4352, 512]⟩
abbrev S8x15x31 : Shape := ⟨3, ![8, 15, 31]⟩
abbrev S64x64 : Shape := ⟨2, ![64, 64]⟩
abbrev S1x1x64x1x64 : Shape := ⟨5, ![1, 1, 64, 1, 64]⟩
abbrev S1x8x15x31 : Shape := ⟨4, ![1, 8, 15, 31]⟩
abbrev S_ : Shape := ⟨0, ![]⟩
abbrev S64x64x1 : Shape := ⟨3, ![64, 64, 1]⟩
abbrev S1x8x15x64x64 : Shape := ⟨5, ![1, 8, 15, 64, 64]⟩
abbrev S1x8x64x15x64 : Shape := ⟨5, ![1, 8, 64, 15, 64]⟩
abbrev S1x8x64x960 : Shape := ⟨4, ![1, 8, 64, 960]⟩
abbrev S1x8x64x2048 : Shape := ⟨4, ![1, 8, 64, 2048]⟩
abbrev S1x8x1x64x2048 : Shape := ⟨5, ![1, 8, 1, 64, 2048]⟩
abbrev S1x8x2x64x2048 : Shape := ⟨5, ![1, 8, 2, 64, 2048]⟩
abbrev S8x2x64x2048 : Shape := ⟨4, ![8, 2, 64, 2048]⟩
abbrev S1x4352x128 : Shape := ⟨3, ![1, 4352, 128]⟩
abbrev S2x2x64x2048 : Shape := ⟨4, ![2, 2, 64, 2048]⟩
abbrev S2x512x960 : Shape := ⟨3, ![2, 512, 960]⟩
abbrev S1x256x128 : Shape := ⟨3, ![1, 256, 128]⟩
abbrev S256x128 : Shape := ⟨2, ![256, 128]⟩
abbrev S64x960 : Shape := ⟨2, ![64, 960]⟩
abbrev S1x1x64x960 : Shape := ⟨4, ![1, 1, 64, 960]⟩
abbrev S1x64x960 : Shape := ⟨3, ![1, 64, 960]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S1x960x128 : Shape := ⟨3, ![1, 960, 128]⟩
abbrev S960x128 : Shape := ⟨2, ![960, 128]⟩
abbrev S512x960 : Shape := ⟨2, ![512, 960]⟩
abbrev S1x512x960 : Shape := ⟨3, ![1, 512, 960]⟩
abbrev S512x256 : Shape := ⟨2, ![512, 256]⟩
abbrev S512 : Shape := ⟨1, ![512]⟩
abbrev S512x1 : Shape := ⟨2, ![512, 1]⟩

abbrev nBuf : Space → Nat
  | .hbm => 33
  | .vmem => 11
  | .smem => 0
  | _ => 0

abbrev bufTy : (tb : Table) → Fin (tcTables nBuf tb) → BufTy
  | .hbm, ⟨0, _⟩ => ⟨S4x4352x512, .bf16⟩
  | .hbm, ⟨1, _⟩ => ⟨S4x4352x512, .bf16⟩
  | .hbm, ⟨2, _⟩ => ⟨S4x4352x512, .bf16⟩
  | .hbm, ⟨3, _⟩ => ⟨S8x15x31, .f32⟩
  | .hbm, ⟨4, _⟩ => ⟨S64x64, .i32⟩
  | .hbm, ⟨5, _⟩ => ⟨S64x64, .i1⟩
  | .hbm, ⟨6, _⟩ => ⟨S64x64, .i1⟩
  | .hbm, ⟨7, _⟩ => ⟨S1x1x64x1x64, .i1⟩
  | .hbm, ⟨8, _⟩ => ⟨S1x8x15x31, .f32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S64x64x1, .i32⟩
  | .hbm, ⟨14, _⟩ => ⟨S1x8x15x64x64, .f32⟩
  | .hbm, ⟨15, _⟩ => ⟨S1x8x64x15x64, .f32⟩
  | .hbm, ⟨16, _⟩ => ⟨S_, .f32⟩
  | .hbm, ⟨17, _⟩ => ⟨S_, .f32⟩
  | .hbm, ⟨18, _⟩ => ⟨S1x8x64x15x64, .i1⟩
  | .hbm, ⟨19, _⟩ => ⟨S1x8x64x15x64, .f32⟩
  | .hbm, ⟨20, _⟩ => ⟨S1x8x64x15x64, .f32⟩
  | .hbm, ⟨21, _⟩ => ⟨S1x8x64x960, .f32⟩
  | .hbm, ⟨22, _⟩ => ⟨S_, .f32⟩
  | .hbm, ⟨23, _⟩ => ⟨S_, .f32⟩
  | .hbm, ⟨24, _⟩ => ⟨S1x8x64x2048, .f32⟩
  | .hbm, ⟨25, _⟩ => ⟨S_, .f32⟩
  | .hbm, ⟨26, _⟩ => ⟨S_, .f32⟩
  | .hbm, ⟨27, _⟩ => ⟨S1x8x64x2048, .f32⟩
  | .hbm, ⟨28, _⟩ => ⟨S1x8x1x64x2048, .f32⟩
  | .hbm, ⟨29, _⟩ => ⟨S1x8x1x64x2048, .f32⟩
  | .hbm, ⟨30, _⟩ => ⟨S1x8x2x64x2048, .f32⟩
  | .hbm, ⟨31, _⟩ => ⟨S8x2x64x2048, .f32⟩
  | .hbm, ⟨32, _⟩ => ⟨S4x4352x512, .bf16⟩
  | .local _ .vmem, ⟨0, _⟩ => ⟨S1x4352x128, .bf16⟩
  | .local _ .vmem, ⟨1, _⟩ => ⟨S1x4352x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S2x2x64x2048, .f32⟩
  | .local _ .vmem, ⟨7, _⟩ => ⟨S2x2x64x2048, .f32⟩
  | .local _ .vmem, ⟨8, _⟩ => ⟨S1x4352x128, .bf16⟩
  | .local _ .vmem, ⟨9, _⟩ => ⟨S1x4352x128, .bf16⟩
  | .local _ .vmem, ⟨10, _⟩ => ⟨S2x512x960, .f32⟩
  | _, _ => ⟨S4x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_c_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_call1_v0 : Ref sig .tc := ⟨.hbm, 23, rfl⟩
abbrev main_v10 : Ref sig .tc := ⟨.hbm, 24, rfl⟩
abbrev main_cst_4 : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 9], ![false, false, false]⟩

def k0_cond5 (i : grid0.Coords) : BitVec 1 :=
  let arg2 : BitVec 32 := BitVec.ofNat 32 (i 2).val
  let c0_i32_9 : BitVec 32 := 0#32
  let v17 : BitVec 1 := Scalar.cmpi .sgt arg2 c0_i32_9
  let v18 : BitVec 32 := Scalar.extui v17
  let c0_i32_10 : BitVec 32 := 0#32
  let v19 : BitVec 1 := Scalar.cmpi .ne v18 c0_i32_10
  v19

def k0_mult1 (i : grid0.Coords) : BitVec 32 :=
  let c256_i32 : BitVec 32 := 256#32
  let arg2 : BitVec 32 := BitVec.ofNat 32 (i 2).val
  let c1_i32_11 : BitVec 32 := 1#32
  let v20 : BitVec 32 := Scalar.subi arg2 c1_i32_11
  let c512_i32 : BitVec 32 := 512#32
  let v21 : BitVec 32 := Scalar.muli v20 c512_i32
  let v22 : BitVec 32 := Scalar.addi c256_i32 v21
  v22
def k0_mult2 (i : grid0.Coords) : BitVec 32 :=
  let c256_i32_15 : BitVec 32 := 256#32
  let c49_i32 : BitVec 32 := 49#32
  let c0_i32_14 : BitVec 32 := 0#32
  let c8_i32_13 : BitVec 32 := 8#32
  let arg2 : BitVec 32 := BitVec.ofNat 32 (i 2).val
  let c1_i32_12 : BitVec 32 := 1#32
  let v24 : BitVec 32 := Scalar.subi arg2 c1_i32_12
  let v25 : BitVec 32 := Scalar.muli c8_i32_13 v24
  let c4_i32 : BitVec 32 := 4#32
  let v26 : BitVec 32 := Scalar.subi v25 c4_i32
  let v27 : BitVec 32 := Scalar.maxsi c0_i32_14 v26
  let v28 : BitVec 32 := Scalar.minsi c49_i32 v27
  let c64_i32 : BitVec 32 := 64#32
  let v29 : BitVec 32 := Scalar.muli v28 c64_i32
  let v30 : BitVec 32 := Scalar.addi c256_i32_15 v29
  v30
def k0_off1 (i : grid0.Coords) : Fin 3 → Nat :=
  let c0_16 : Index := 0#32
  let c256_i32 : BitVec 32 := 256#32
  let arg2 : BitVec 32 := BitVec.ofNat 32 (i 2).val
  let c1_i32_11 : BitVec 32 := 1#32
  let v20 : BitVec 32 := Scalar.subi arg2 c1_i32_11
  let c512_i32 : BitVec 32 := 512#32
  let v21 : BitVec 32 := Scalar.muli v20 c512_i32
  let v22 : BitVec 32 := Scalar.addi c256_i32 v21
  let v23 : BitVec 32 := v22
  let v32 : Index := Scalar.indexCast v23
  let c0_17 : Index := 0#32
  ![0, v32.toNat, 0]
def k0_off2 (i : grid0.Coords) : Fin 3 → Nat :=
  let c0_19 : Index := 0#32
  let c256_i32_15 : BitVec 32 := 256#32
  let c49_i32 : BitVec 32 := 49#32
  let c0_i32_14 : BitVec 32 := 0#32
  let c8_i32_13 : BitVec 32 := 8#32
  let arg2 : BitVec 32 := BitVec.ofNat 32 (i 2).val
  let c1_i32_12 : BitVec 32 := 1#32
  let v24 : BitVec 32 := Scalar.subi arg2 c1_i32_12
  let v25 : BitVec 32 := Scalar.muli c8_i32_13 v24
  let c4_i32 : BitVec 32 := 4#32
  let v26 : BitVec 32 := Scalar.subi v25 c4_i32
  let v27 : BitVec 32 := Scalar.maxsi c0_i32_14 v26
  let v28 : BitVec 32 := Scalar.minsi c49_i32 v27
  let c64_i32 : BitVec 32 := 64#32
  let v29 : BitVec 32 := Scalar.muli v28 c64_i32
  let v30 : BitVec 32 := Scalar.addi c256_i32_15 v29
  let v31 : BitVec 32 := v30
  let v41 : Index := Scalar.indexCast v31
  let c0_20 : Index := 0#32
  ![0, v41.toNat, 0]
def k0_cond4 (i : grid0.Coords) : BitVec 1 :=
  let arg2 : BitVec 32 := BitVec.ofNat 32 (i 2).val
  let c0_i32_7 : BitVec 32 := 0#32
  let v14 : BitVec 1 := Scalar.cmpi .eq arg2 c0_i32_7
  let v15 : BitVec 32 := Scalar.extui v14
  let c0_i32_8 : BitVec 32 := 0#32
  let v16 : BitVec 1 := Scalar.cmpi .ne v15 c0_i32_8
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x4352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x2x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelIdeal.lean ====
variable {F : FTy → Type} [FloatOps F] [Named F]
def κ : String → Option EReal := fun
  | "mask" => some ⊥
  | _ => none
-- ==== RefIdeal.lean ====
abbrev S4x4352x512 : Shape := ⟨3, ![4, 4352, 512]⟩
abbrev S8x15x31 : Shape := ⟨3, ![8, 15, 31]⟩
abbrev S64x64 : Shape := ⟨2, ![64, 64]⟩
abbrev S64x8 : Shape := ⟨2, ![64, 8]⟩
abbrev S1x1x64x1x64 : Shape := ⟨5, ![1, 1, 64, 1, 64]⟩
abbrev S4x4352x8x64 : Shape := ⟨4, ![4, 4352, 8, 64]⟩
abbrev S4x256x8x64 : Shape := ⟨4, ![4, 256, 8, 64]⟩
abbrev S4x4096x8x64 : Shape := ⟨4, ![4, 4096, 8, 64]⟩
abbrev S4x64x64x8x64 : Shape := ⟨5, ![4, 64, 64, 8, 64]⟩
abbrev S_ : Shape := ⟨0, ![]⟩
abbrev S64x64x1 : Shape := ⟨3, ![64, 64, 1]⟩
abbrev S8x15x64x64 : Shape := ⟨4, ![8, 15, 64, 64]⟩
abbrev S64x8x1 : Shape := ⟨3, ![64, 8, 1]⟩
abbrev S8x64x8x64x64 : Shape := ⟨5, ![8, 64, 8, 64, 64]⟩
abbrev S8x64x64x8x64 : Shape := ⟨5, ![8, 64, 64, 8, 64]⟩
abbrev S4x64x8x64x8x64 : Shape := ⟨6, ![4, 64, 8, 64, 8, 64]⟩
abbrev S4x8x64x64x8x64 : Shape := ⟨6, ![4, 8, 64, 64, 8, 64]⟩
abbrev S1x8x64x64x8x64 : Shape := ⟨6, ![1, 8, 64, 64, 8, 64]⟩
abbrev S4x8x64x64x512 : Shape := ⟨5, ![4, 8, 64, 64, 512]⟩
abbrev S4x8x64x64x256 : Shape := ⟨5, ![4, 8, 64, 64, 256]⟩
abbrev S4x8x64x64x768 : Shape := ⟨5, ![4, 8, 64, 64, 768]⟩
abbrev S4x8x64x64 : Shape := ⟨4, ![4, 8, 64, 64]⟩
abbrev S4x8x64x64x1 : Shape := ⟨5, ![4, 8, 64, 64, 1]⟩
abbrev S4x64x8x64x64 : Shape := ⟨5, ![4, 64, 8, 64, 64]⟩
abbrev S4x8x64x64x64 : Shape := ⟨5, ![4, 8, 64, 64, 64]⟩
abbrev S4x4096x512 : Shape := ⟨3, ![4, 4096, 512]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x256x512 : Shape := ⟨3, ![4, 256, 512]⟩

abbrev nBuf : Space → Nat
  | .hbm => 108
  | .vmem => 0
  | .smem => 0
  | _ => 0

abbrev bufTy : (tb : Table) → Fin (tcTables nBuf tb) → BufTy
  | .hbm, ⟨0, _⟩ => ⟨S4x4352x512, .bf16⟩
  | .hbm, ⟨1, _⟩ => ⟨S4x4352x512, .bf16⟩
  | .hbm, ⟨2, _⟩ => ⟨S4x4352x512, .bf16⟩
  | .hbm, ⟨3, _⟩ => ⟨S8x15x31, .f32⟩
  | .hbm, ⟨4, _⟩ => ⟨S64x64, .i32⟩
  | .hbm, ⟨5, _⟩ => ⟨S64x64, .i1⟩
  | .hbm, ⟨6, _⟩ => ⟨S64x8, .i32⟩
  | .hbm, ⟨7, _⟩ => ⟨S64x8, .i1⟩
  | .hbm, ⟨8, _⟩ => ⟨S64x64, .i1⟩
  | .hbm, ⟨9, _⟩ => ⟨S1x1x64x1x64, .i1⟩
  | .hbm, ⟨10, _⟩ => ⟨S64x8, .i32⟩
  | .hbm, ⟨11, _⟩ => ⟨S64x8, .i1⟩
  | .hbm, ⟨12, _⟩ => ⟨S64x8, .i1⟩
  | .hbm, ⟨13, _⟩ => ⟨S4x4352x512, .f32⟩
  | .hbm, ⟨14, _⟩ => ⟨S4x4352x8x64, .f32⟩
  | .hbm, ⟨15, _⟩ => ⟨S4x4352x512, .f32⟩
  | .hbm, ⟨16, _⟩ => ⟨S4x4352x8x64, .f32⟩
  | .hbm, ⟨17, _⟩ => ⟨S4x4352x512, .f32⟩
  | .hbm, ⟨18, _⟩ => ⟨S4x4352x8x64, .f32⟩
  | .hbm, ⟨19, _⟩ => ⟨S4x256x8x64, .f32⟩
  | .hbm, ⟨20, _⟩ => ⟨S4x256x8x64, .f32⟩
  | .hbm, ⟨21, _⟩ => ⟨S4x256x8x64, .f32⟩
  | .hbm, ⟨22, _⟩ => ⟨S4x4096x8x64, .f32⟩
  | .hbm, ⟨23, _⟩ => ⟨S4x64x64x8x64, .f32⟩
  | .hbm, ⟨24, _⟩ => ⟨S4x4096x8x64, .f32⟩
  | .hbm, ⟨25, _⟩ => ⟨S4x64x64x8x64, .f32⟩
  | .hbm, ⟨26, _⟩ => ⟨S4x4096x8x64, .f32⟩
  | .hbm, ⟨27, _⟩ => ⟨S4x64x64x8x64, .f32⟩
  | .hbm, ⟨28, _⟩ => ⟨S_, .i32⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S64x64x1, .i32⟩
  | .hbm, ⟨33, _⟩ => ⟨S8x15x64x64, .f32⟩
  | .hbm, ⟨34, _⟩ => ⟨S_, .i32⟩
  | .hbm, ⟨35, _⟩ => ⟨S64x8, .i32⟩
  | .hbm, ⟨36, _⟩ => ⟨S64x8, .i32⟩
  | .hbm, ⟨37, _⟩ => ⟨S64x8, .i32⟩
  | .hbm, ⟨38, _⟩ => ⟨S64x8x1, .i32⟩
  | .hbm, ⟨39, _⟩ => ⟨S8x64x8x64x64, .f32⟩
  | .hbm, ⟨40, _⟩ => ⟨S8x64x64x8x64, .f32⟩
  | .hbm, ⟨41, _⟩ => ⟨S_, .f32⟩
  | .hbm, ⟨42, _⟩ => ⟨S_, .f32⟩
  | .hbm, ⟨43, _⟩ => ⟨S8x64x64x8x64, .i1⟩
  | .hbm, ⟨44, _⟩ => ⟨S8x64x64x8x64, .f32⟩
  | .hbm, ⟨45, _⟩ => ⟨S8x64x64x8x64, .f32⟩
  | .hbm, ⟨46, _⟩ => ⟨S_, .i32⟩
  | .hbm, ⟨47, _⟩ => ⟨S64x8, .i32⟩
  | .hbm, ⟨48, _⟩ => ⟨S64x8, .i32⟩
  | .hbm, ⟨49, _⟩ => ⟨S64x8, .i32⟩
  | .hbm, ⟨50, _⟩ => ⟨S64x8x1, .i32⟩
  | .hbm, ⟨51, _⟩ => ⟨S4x64x8x64x8x64, .f32⟩
  | .hbm, ⟨52, _⟩ => ⟨S_, .i32⟩
  | .hbm, ⟨53, _⟩ => ⟨S64x8, .i32⟩
  | .hbm, ⟨54, _⟩ => ⟨S64x8, .i32⟩
  | .hbm, ⟨55, _⟩ => ⟨S64x8, .i32⟩
  | .hbm, ⟨56, _⟩ => ⟨S64x8x1, .i32⟩
  | .hbm, ⟨57, _⟩ => ⟨S4x64x8x64x8x64, .f32⟩
  | .hbm, ⟨58, _⟩ => ⟨S4x8x64x64x8x64, .f32⟩
  | .hbm, ⟨59, _⟩ => ⟨S1x8x64x64x8x64, .f32⟩
  | .hbm, ⟨60, _⟩ => ⟨S4x8x64x64x8x64, .f32⟩
  | .hbm, ⟨61, _⟩ => ⟨S4x8x64x64x8x64, .f32⟩
  | .hbm, ⟨62, _⟩ => ⟨S4x8x64x64x512, .f32⟩
  | .hbm, ⟨63, _⟩ => ⟨S4x8x64x64x256, .f32⟩
  | .hbm, ⟨64, _⟩ => ⟨S4x8x64x64x768, .f32⟩
  | .hbm, ⟨65, _⟩ => ⟨S_, .f32⟩
  | .hbm, ⟨66, _⟩ => ⟨S4x8x64x64, .f32⟩
  | .hbm, ⟨67, _⟩ => ⟨S_, .f32⟩
  | .hbm, ⟨68, _⟩ => ⟨S4x8x64x64, .f32⟩
  | .hbm, ⟨69, _⟩ => ⟨S4x8x64x64, .f32⟩
  | .hbm, ⟨70, _⟩ => ⟨S4x8x64x64x1, .f32⟩
  | .hbm, ⟨71, _⟩ => ⟨S4x8x64x64x768, .f32⟩
  | .hbm, ⟨72, _⟩ => ⟨S4x8x64x64x768, .f32⟩
  | .hbm, ⟨73, _⟩ => ⟨S4x8x64x64x768, .f32⟩
  | .hbm, ⟨74, _⟩ => ⟨S_, .f32⟩
  | .hbm, ⟨75, _⟩ => ⟨S4x8x64x64, .f32⟩
  | .hbm, ⟨76, _⟩ => ⟨S4x8x64x64x1, .f32⟩
  | .hbm, ⟨77, _⟩ => ⟨S4x8x64x64x768, .f32⟩
  | .hbm, ⟨78, _⟩ => ⟨S4x8x64x64x768, .f32⟩
  | .hbm, ⟨79, _⟩ => ⟨S4x8x64x64x512, .f32⟩
  | .hbm, ⟨80, _⟩ => ⟨S4x8x64x64x8x64, .f32⟩
  | .hbm, ⟨81, _⟩ => ⟨S4x64x8x64x64, .f32⟩
  | .hbm, ⟨82, _⟩ => ⟨S4x64x64x8x64, .f32⟩
  | .hbm, ⟨83, _⟩ => ⟨S4x8x64x64x256, .f32⟩
  | .hbm, ⟨84, _⟩ => ⟨S4x8x64x64x64, .f32⟩
  | .hbm, ⟨85, _⟩ => ⟨S4x64x64x8x64, .f32⟩
  | .hbm, ⟨86, _⟩ => ⟨S4x64x64x8x64, .f32⟩
  | .hbm, ⟨87, _⟩ => ⟨S4x4096x512, .f32⟩
  | .hbm, ⟨88, _⟩ => ⟨S4x8x256x256, .f32⟩
  | .hbm, ⟨89, _⟩ => ⟨S_, .f32⟩
  | .hbm, ⟨90, _⟩ => ⟨S4x8x256, .f32⟩
  | .hbm, ⟨91, _⟩ => ⟨S_, .f32⟩
  | .hbm, ⟨92, _⟩ => ⟨S4x8x256, .f32⟩
  | .hbm, ⟨93, _⟩ => ⟨S4x8x256, .f32⟩
  | .hbm, ⟨94, _⟩ => ⟨S4x8x256x1, .f32⟩
  | .hbm, ⟨95, _⟩ => ⟨S4x8x256x256, .f32⟩
  | .hbm, ⟨96, _⟩ => ⟨S4x8x256x256, .f32⟩
  | .hbm, ⟨97, _⟩ => ⟨S4x8x256x256, .f32⟩
  | .hbm, ⟨98, _⟩ => ⟨S_, .f32⟩
  | .hbm, ⟨99, _⟩ => ⟨S4x8x256, .f32⟩
  | .hbm, ⟨100, _⟩ => ⟨S4x8x256x1, .f32⟩
  | .hbm, ⟨101, _⟩ => ⟨S4x8x256x256, .f32⟩
  | .hbm, ⟨102, _⟩ => ⟨S4x8x256x256, .f32⟩
  | .hbm, ⟨103, _⟩ => ⟨S4x8x64x256, .f32⟩
  | .hbm, ⟨104, _⟩ => ⟨S4x256x8x64, .f32⟩
  | .hbm, ⟨105, _⟩ => ⟨S4x256x512, .f32⟩
  | .hbm, ⟨106, _⟩ => ⟨S4x4352x512, .f32⟩
  | .hbm, ⟨107, _⟩ => ⟨S4x4352x512, .bf16⟩
  | _, _ => ⟨S4x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v0 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v27 : Ref sig .tc := ⟨.hbm, 45, rfl⟩
abbrev main_c_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

def κ : String → Option EReal := fun
  | "mask" => some ⊥
  | _ => none
-- ==== Front.lean ====
abbrev S4x4096x1024 : Shape := ⟨3, ![4, 4096, 1024]⟩
abbrev S4x256x1024 : Shape := ⟨3, ![4, 256, 1024]⟩
abbrev S4x9x1024 : Shape := ⟨3, ![4, 9, 1024]⟩
abbrev S1x9x1024 : Shape := ⟨3, ![1, 9, 1024]⟩
abbrev S3x1024 : Shape := ⟨2, ![3, 1024]⟩
abbrev S4x2x1024x5632 : Shape := ⟨4, ![4, 2, 1024, 5632]⟩
abbrev S4x2x2816x1024 : Shape := ⟨4, ![4, 2, 2816, 1024]⟩
abbrev S4x1024x3328 : Shape := ⟨3, ![4, 1024, 3328]⟩
abbrev S64 : Shape := ⟨1, ![64]⟩
abbrev S4x1x9x1024 : Shape := ⟨4, ![4, 1, 9, 1024]⟩
abbrev S4x2x9x1024 : Shape := ⟨4, ![4, 2, 9, 1024]⟩
abbrev S4x4352x1024 : Shape := ⟨3, ![4, 4352, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4x4352x512 : Shape := ⟨3, ![4, 4352, 512]⟩
abbrev S4x4352x1792 : Shape := ⟨3, ![4, 4352, 1792]⟩
abbrev S1x256x1024 : Shape := ⟨3, ![1, 256, 1024]⟩
abbrev S1x1x9x1024 : Shape := ⟨4, ![1, 1, 9, 1024]⟩
abbrev S1x1x1024x5632 : Shape := ⟨4, ![1, 1, 1024, 5632]⟩
abbrev S1x1x2816x1024 : Shape := ⟨4, ![1, 1, 2816, 1024]⟩
abbrev S1x1024x3328 : Shape := ⟨3, ![1, 1024, 3328]⟩
abbrev S1x256x512 : Shape := ⟨3, ![1, 256, 512]⟩
abbrev S1x256x1792 : Shape := ⟨3, ![1, 256, 1792]⟩
abbrev S9x1024 : Shape := ⟨2, ![9, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1024x2816 : Shape := ⟨4, ![1, 1, 1024, 2816]⟩
abbrev S1024x2816 : Shape := ⟨2, ![1024, 2816]⟩
abbrev S256x2816 : Shape := ⟨2, ![256, 2816]⟩
abbrev S2816x1024 : Shape := ⟨2, ![2816, 1024]⟩
abbrev S1024x3328 : Shape := ⟨2, ![1024, 3328]⟩
abbrev S256x3328 : Shape := ⟨2, ![256, 3328]⟩
abbrev S256x128 : Shape := ⟨2, ![256, 128]⟩
abbrev S1x256x128 : Shape := ⟨3, ![1, 256, 128]⟩
abbrev S256x512 : Shape := ⟨2, ![256, 512]⟩
abbrev S256x1792 : Shape := ⟨2, ![256, 1792]⟩

abbrev nBuf : Space → Nat
  | .hbm => 31
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x9x1024, .f32⟩
  | .hbm, ⟨3, _⟩ => ⟨S1x9x1024, .f32⟩
  | .hbm, ⟨4, _⟩ => ⟨S3x1024, .f32⟩
  | .hbm, ⟨5, _⟩ => ⟨S4x2x1024x5632, .f32⟩
  | .hbm, ⟨6, _⟩ => ⟨S4x2x2816x1024, .f32⟩
  | .hbm, ⟨7, _⟩ => ⟨S4x1024x3328, .f32⟩
  | .hbm, ⟨8, _⟩ => ⟨S64, .f32⟩
  | .hbm, ⟨9, _⟩ => ⟨S64, .f32⟩
  | .hbm, ⟨10, _⟩ => ⟨S4x9x1024, .f32⟩
  | .hbm, ⟨11, _⟩ => ⟨S4x1x9x1024, .f32⟩
  | .hbm, ⟨12, _⟩ => ⟨S4x1x9x1024, .f32⟩
  | .hbm, ⟨13, _⟩ => ⟨S4x2x9x1024, .f32⟩
  | .hbm, ⟨14, _⟩ => ⟨S4x4352x1024, .f32⟩
  | .hbm, ⟨15, _⟩ => ⟨S4x2x1024x5632, .bf16⟩
  | .hbm, ⟨16, _⟩ => ⟨S4x2x2816x1024, .bf16⟩
  | .hbm, ⟨17, _⟩ => ⟨S4x1024x3328, .bf16⟩
  | .hbm, ⟨18, _⟩ => ⟨S1x64, .f32⟩
  | .hbm, ⟨19, _⟩ => ⟨S2x64, .f32⟩
  | .hbm, ⟨20, _⟩ => ⟨S128, .f32⟩
  | .hbm, ⟨21, _⟩ => ⟨S1x128, .f32⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S1x128, .f32⟩
  | .hbm, ⟨26, _⟩ => ⟨S4x4352x1024, .f32⟩
  | .hbm, ⟨27, _⟩ => ⟨S4x4352x512, .bf16⟩
  | .hbm, ⟨28, _⟩ => ⟨S4x4352x512, .bf16⟩
  | .hbm, ⟨29, _⟩ => ⟨S4x4352x512, .bf16⟩
  | .hbm, ⟨30, _⟩ => ⟨S4x4352x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S3x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024x3328, .bf16⟩
  | .local _ .vmem, ⟨8, _⟩ => ⟨S1x128, .f32⟩
  | .local _ .vmem, ⟨9, _⟩ => ⟨S1x128, .f32⟩
  | .local _ .vmem, ⟨10, _⟩ => ⟨S1x256x1024, .f32⟩
  | .local _ .vmem, ⟨11, _⟩ => ⟨S1x256x1024, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x1792, .f32⟩
  | .local _ .vmem, ⟨19, _⟩ => ⟨S1x256x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1792 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FrontRefIdeal.lean ====
abbrev S4x4096x1024 : Shape := ⟨3, ![4, 4096, 1024]⟩
abbrev S4x256x1024 : Shape := ⟨3, ![4, 256, 1024]⟩
abbrev S4x9x1024 : Shape := ⟨3, ![4, 9, 1024]⟩
abbrev S1x9x1024 : Shape := ⟨3, ![1, 9, 1024]⟩
abbrev S3x1024 : Shape := ⟨2, ![3, 1024]⟩
abbrev S4x2x1024x5632 : Shape := ⟨4, ![4, 2, 1024, 5632]⟩
abbrev S4x2x2816x1024 : Shape := ⟨4, ![4, 2, 2816, 1024]⟩
abbrev S4x1024x3328 : Shape := ⟨3, ![4, 1024, 3328]⟩
abbrev S64 : Shape := ⟨1, ![64]⟩
abbrev S4x1x1024 : Shape := ⟨3, ![4, 1, 1024]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S1x1024x3328 : Shape := ⟨3, ![1, 1024, 3328]⟩
abbrev S1024x3328 : Shape := ⟨2, ![1024, 3328]⟩
abbrev S4x4096x3328 : Shape := ⟨3, ![4, 4096, 3328]⟩
abbrev S4x4096x1536 : Shape := ⟨3, ![4, 4096, 1536]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x1792 : Shape := ⟨3, ![4, 4096, 1792]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S4x256x3328 : Shape := ⟨3, ![4, 256, 3328]⟩
abbrev S4x256x1536 : Shape := ⟨3, ![4, 256, 1536]⟩
abbrev S4x256x512 : Shape := ⟨3, ![4, 256, 512]⟩
abbrev S4x256x8x64 : Shape := ⟨4, ![4, 256, 8, 64]⟩
abbrev S4x256x8 : Shape := ⟨3, ![4, 256, 8]⟩
abbrev S4x256x8x1 : Shape := ⟨4, ![4, 256, 8, 1]⟩
abbrev S4x256x1792 : Shape := ⟨3, ![4, 256, 1792]⟩
abbrev S4x4352x1024 : Shape := ⟨3, ![4, 4352, 1024]⟩
abbrev S4x4352x512 : Shape := ⟨3, ![4, 4352, 512]⟩
abbrev S4x4352x1792 : Shape := ⟨3, ![4, 4352, 1792]⟩

abbrev nBuf : Space → Nat
  | .hbm => 270
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x9x1024, .f32⟩
  | 3 => ⟨S1x9x1024, .f32⟩
  | 4 => ⟨S3x1024, .f32⟩
  | 5 => ⟨S4x2x1024x5632, .f32⟩
  | 6 => ⟨S4x2x2816x1024, .f32⟩
  | 7 => ⟨S4x1024x3328, .f32⟩
  | 8 => ⟨S64, .f32⟩
  | 9 => ⟨S64, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S_, .f32⟩
  | 16 => ⟨S4x1x1024, .f32⟩
  | 17 => ⟨S4x1x1024, .f32⟩
  | 18 => ⟨S1x1024, .f32⟩
  | 19 => ⟨S1024, .f32⟩
  | 20 => ⟨S4x4096x1024, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S_, .f32⟩
  | 28 => ⟨S4x4096x1, .f32⟩
  | 29 => ⟨S4x4096x1, .f32⟩
  | 30 => ⟨S4x4096x1, .f32⟩
  | 31 => ⟨S4x4096x1024, .f32⟩
  | 32 => ⟨S4x4096x1024, .f32⟩
  | 33 => ⟨S1x1x1024, .f32⟩
  | 34 => ⟨S4x4096x1024, .f32⟩
  | 35 => ⟨S4x4096x1024, .f32⟩
  | 36 => ⟨S_, .f32⟩
  | 37 => ⟨S4x1x1024, .f32⟩
  | 38 => ⟨S4x1x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S1x1x1024x5632, .f32⟩
  | 44 => ⟨S1024x5632, .f32⟩
  | 45 => ⟨S1x1x2816x1024, .f32⟩
  | 46 => ⟨S2816x1024, .f32⟩
  | 47 => ⟨S4x4096x5632, .f32⟩
  | 48 => ⟨S4x4096x2816, .f32⟩
  | 49 => ⟨S4x4096x2816, .f32⟩
  | 50 => ⟨S4x4096x2816, .f32⟩
  | 51 => ⟨S4x4096x2816, .f32⟩
  | 52 => ⟨S_, .f32⟩
  | 53 => ⟨S4x4096x2816, .f32⟩
  | 54 => ⟨S4x4096x2816, .f32⟩
  | 55 => ⟨S_, .f32⟩
  | 56 => ⟨S4x4096x2816, .f32⟩
  | 57 => ⟨S4x4096x2816, .f32⟩
  | 58 => ⟨S4x4096x2816, .f32⟩
  | 59 => ⟨S4x4096x2816, .f32⟩
  | 60 => ⟨S4x4096x1024, .f32⟩
  | 61 => ⟨S4x4096x1024, .f32⟩
  | 62 => ⟨S4x4096x1024, .f32⟩
  | 63 => ⟨S4x4096x1024, .f32⟩
  | 64 => ⟨S1x1024, .f32⟩
  | 65 => ⟨S1024, .f32⟩
  | 66 => ⟨S4x4096x1024, .f32⟩
  | 67 => ⟨S_, .f32⟩
  | 68 => ⟨S4x4096, .f32⟩
  | 69 => ⟨S4x4096x1, .f32⟩
  | 70 => ⟨S_, .f32⟩
  | 71 => ⟨S4x4096x1, .f32⟩
  | 72 => ⟨S4x4096x1, .f32⟩
  | 73 => ⟨S_, .f32⟩
  | 74 => ⟨S4x4096x1, .f32⟩
  | 75 => ⟨S4x4096x1, .f32⟩
  | 76 => ⟨S4x4096x1, .f32⟩
  | 77 => ⟨S4x4096x1024, .f32⟩
  | 78 => ⟨S4x4096x1024, .f32⟩
  | 79 => ⟨S1x1x1024, .f32⟩
  | 80 => ⟨S4x4096x1024, .f32⟩
  | 81 => ⟨S4x4096x1024, .f32⟩
  | 82 => ⟨S_, .f32⟩
  | 83 => ⟨S4x1x1024, .f32⟩
  | 84 => ⟨S4x1x1024, .f32⟩
  | 85 => ⟨S4x4096x1024, .f32⟩
  | 86 => ⟨S4x4096x1024, .f32⟩
  | 87 => ⟨S4x4096x1024, .f32⟩
  | 88 => ⟨S4x4096x1024, .f32⟩
  | 89 => ⟨S1x1024x3328, .f32⟩
  | 90 => ⟨S1024x3328, .f32⟩
  | 91 => ⟨S4x4096x3328, .f32⟩
  | 92 => ⟨S4x4096x1536, .f32⟩
  | 93 => ⟨S4x4096x512, .f32⟩
  | 94 => ⟨S4x4096x512, .f32⟩
  | 95 => ⟨S4x4096x512, .f32⟩
  | 96 => ⟨S4x4096x8x64, .f32⟩
  | 97 => ⟨S4x4096x8x64, .f32⟩
  | 98 => ⟨S_, .f32⟩
  | 99 => ⟨S4x4096x8, .f32⟩
  | 100 => ⟨S4x4096x8x1, .f32⟩
  | 101 => ⟨S_, .f32⟩
  | 102 => ⟨S4x4096x8x1, .f32⟩
  | 103 => ⟨S4x4096x8x1, .f32⟩
  | 104 => ⟨S_, .f32⟩
  | 105 => ⟨S4x4096x8x1, .f32⟩
  | 106 => ⟨S4x4096x8x1, .f32⟩
  | 107 => ⟨S4x4096x8x1, .f32⟩
  | 108 => ⟨S4x4096x8x64, .f32⟩
  | 109 => ⟨S4x4096x8x64, .f32⟩
  | 110 => ⟨S1x1x1x64, .f32⟩
  | 111 => ⟨S4x4096x8x64, .f32⟩
  | 112 => ⟨S4x4096x8x64, .f32⟩
  | 113 => ⟨S_, .f32⟩
  | 114 => ⟨S4x4096x8x64, .f32⟩
  | 115 => ⟨S4x4096x8x64, .f32⟩
  | 116 => ⟨S4x4096x512, .f32⟩
  | 117 => ⟨S4x4096x8x64, .f32⟩
  | 118 => ⟨S4x4096x8x64, .f32⟩
  | 119 => ⟨S_, .f32⟩
  | 120 => ⟨S4x4096x8, .f32⟩
  | 121 => ⟨S4x4096x8x1, .f32⟩
  | 122 => ⟨S_, .f32⟩
  | 123 => ⟨S4x4096x8x1, .f32⟩
  | 124 => ⟨S4x4096x8x1, .f32⟩
  | 125 => ⟨S_, .f32⟩
  | 126 => ⟨S4x4096x8x1, .f32⟩
  | 127 => ⟨S4x4096x8x1, .f32⟩
  | _ => ⟨S4x4096x1024, .f32⟩

abbrev hbmTy0_1 (i : Nat) : BufTy := match i % 128 with
  | 0 => ⟨S4x4096x8x1, .f32⟩
  | 1 => ⟨S4x4096x8x64, .f32⟩
  | 2 => ⟨S4x4096x8x64, .f32⟩
  | 3 => ⟨S1x1x1x64, .f32⟩
  | 4 => ⟨S4x4096x8x64, .f32⟩
  | 5 => ⟨S4x4096x8x64, .f32⟩
  | 6 => ⟨S4x4096x512, .f32⟩
  | 7 => ⟨S4x4096x1792, .f32⟩
  | 8 => ⟨S1x1x1024, .f32⟩
  | 9 => ⟨S1x1x1024, .f32⟩
  | 10 => ⟨S1x1x1024, .f32⟩
  | 11 => ⟨S1x1x1024, .f32⟩
  | 12 => ⟨S1x1x1024, .f32⟩
  | 13 => ⟨S_, .f32⟩
  | 14 => ⟨S1x1x1024, .f32⟩
  | 15 => ⟨S1x1x1024, .f32⟩
  | 16 => ⟨S1x1024, .f32⟩
  | 17 => ⟨S1024, .f32⟩
  | 18 => ⟨S4x256x1024, .f32⟩
  | 19 => ⟨S_, .f32⟩
  | 20 => ⟨S4x256, .f32⟩
  | 21 => ⟨S4x256x1, .f32⟩
  | 22 => ⟨S_, .f32⟩
  | 23 => ⟨S4x256x1, .f32⟩
  | 24 => ⟨S4x256x1, .f32⟩
  | 25 => ⟨S_, .f32⟩
  | 26 => ⟨S4x256x1, .f32⟩
  | 27 => ⟨S4x256x1, .f32⟩
  | 28 => ⟨S4x256x1, .f32⟩
  | 29 => ⟨S4x256x1024, .f32⟩
  | 30 => ⟨S4x256x1024, .f32⟩
  | 31 => ⟨S1x1x1024, .f32⟩
  | 32 => ⟨S4x256x1024, .f32⟩
  | 33 => ⟨S4x256x1024, .f32⟩
  | 34 => ⟨S_, .f32⟩
  | 35 => ⟨S1x1x1024, .f32⟩
  | 36 => ⟨S1x1x1024, .f32⟩
  | 37 => ⟨S4x256x1024, .f32⟩
  | 38 => ⟨S4x256x1024, .f32⟩
  | 39 => ⟨S4x256x1024, .f32⟩
  | 40 => ⟨S4x256x1024, .f32⟩
  | 41 => ⟨S1x1x1024x5632, .f32⟩
  | 42 => ⟨S1024x5632, .f32⟩
  | 43 => ⟨S1x1x2816x1024, .f32⟩
  | 44 => ⟨S2816x1024, .f32⟩
  | 45 => ⟨S4x256x5632, .f32⟩
  | 46 => ⟨S4x256x2816, .f32⟩
  | 47 => ⟨S4x256x2816, .f32⟩
  | 48 => ⟨S4x256x2816, .f32⟩
  | 49 => ⟨S4x256x2816, .f32⟩
  | 50 => ⟨S_, .f32⟩
  | 51 => ⟨S4x256x2816, .f32⟩
  | 52 => ⟨S4x256x2816, .f32⟩
  | 53 => ⟨S_, .f32⟩
  | 54 => ⟨S4x256x2816, .f32⟩
  | 55 => ⟨S4x256x2816, .f32⟩
  | 56 => ⟨S4x256x2816, .f32⟩
  | 57 => ⟨S4x256x2816, .f32⟩
  | 58 => ⟨S4x256x1024, .f32⟩
  | 59 => ⟨S4x256x1024, .f32⟩
  | 60 => ⟨S4x256x1024, .f32⟩
  | 61 => ⟨S4x256x1024, .f32⟩
  | 62 => ⟨S1x1024, .f32⟩
  | 63 => ⟨S1024, .f32⟩
  | 64 => ⟨S4x256x1024, .f32⟩
  | 65 => ⟨S_, .f32⟩
  | 66 => ⟨S4x256, .f32⟩
  | 67 => ⟨S4x256x1, .f32⟩
  | 68 => ⟨S_, .f32⟩
  | 69 => ⟨S4x256x1, .f32⟩
  | 70 => ⟨S4x256x1, .f32⟩
  | 71 => ⟨S_, .f32⟩
  | 72 => ⟨S4x256x1, .f32⟩
  | 73 => ⟨S4x256x1, .f32⟩
  | 74 => ⟨S4x256x1, .f32⟩
  | 75 => ⟨S4x256x1024, .f32⟩
  | 76 => ⟨S4x256x1024, .f32⟩
  | 77 => ⟨S1x1x1024, .f32⟩
  | 78 => ⟨S4x256x1024, .f32⟩
  | 79 => ⟨S4x256x1024, .f32⟩
  | 80 => ⟨S_, .f32⟩
  | 81 => ⟨S1x1x1024, .f32⟩
  | 82 => ⟨S1x1x1024, .f32⟩
  | 83 => ⟨S4x256x1024, .f32⟩
  | 84 => ⟨S4x256x1024, .f32⟩
  | 85 => ⟨S4x256x1024, .f32⟩
  | 86 => ⟨S4x256x1024, .f32⟩
  | 87 => ⟨S1x1024x3328, .f32⟩
  | 88 => ⟨S1024x3328, .f32⟩
  | 89 => ⟨S4x256x3328, .f32⟩
  | 90 => ⟨S4x256x1536, .f32⟩
  | 91 => ⟨S4x256x512, .f32⟩
  | 92 => ⟨S4x256x512, .f32⟩
  | 93 => ⟨S4x256x512, .f32⟩
  | 94 => ⟨S4x256x8x64, .f32⟩
  | 95 => ⟨S4x256x8x64, .f32⟩
  | 96 => ⟨S_, .f32⟩
  | 97 => ⟨S4x256x8, .f32⟩
  | 98 => ⟨S4x256x8x1, .f32⟩
  | 99 => ⟨S_, .f32⟩
  | 100 => ⟨S4x256x8x1, .f32⟩
  | 101 => ⟨S4x256x8x1, .f32⟩
  | 102 => ⟨S_, .f32⟩
  | 103 => ⟨S4x256x8x1, .f32⟩
  | 104 => ⟨S4x256x8x1, .f32⟩
  | 105 => ⟨S4x256x8x1, .f32⟩
  | 106 => ⟨S4x256x8x64, .f32⟩
  | 107 => ⟨S4x256x8x64, .f32⟩
  | 108 => ⟨S1x1x1x64, .f32⟩
  | 109 => ⟨S4x256x8x64, .f32⟩
  | 110 => ⟨S4x256x8x64, .f32⟩
  | 111 => ⟨S_, .f32⟩
  | 112 => ⟨S4x256x8x64, .f32⟩
  | 113 => ⟨S4x256x8x64, .f32⟩
  | 114 => ⟨S4x256x512, .f32⟩
  | 115 => ⟨S4x256x8x64, .f32⟩
  | 116 => ⟨S4x256x8x64, .f32⟩
  | 117 => ⟨S_, .f32⟩
  | 118 => ⟨S4x256x8, .f32⟩
  | 119 => ⟨S4x256x8x1, .f32⟩
  | 120 => ⟨S_, .f32⟩
  | 121 => ⟨S4x256x8x1, .f32⟩
  | 122 => ⟨S4x256x8x1, .f32⟩
  | 123 => ⟨S_, .f32⟩
  | 124 => ⟨S4x256x8x1, .f32⟩
  | 125 => ⟨S4x256x8x1, .f32⟩
  | 126 => ⟨S4x256x8x1, .f32⟩
  | 127 => ⟨S4x256x8x64, .f32⟩
  | _ => ⟨S4x4096x1024, .f32⟩

abbrev hbmTy0_2 (i : Nat) : BufTy := match i % 128 with
  | 0 => ⟨S4x256x8x64, .f32⟩
  | 1 => ⟨S1x1x1x64, .f32⟩
  | 2 => ⟨S4x256x8x64, .f32⟩
  | 3 => ⟨S4x256x8x64, .f32⟩
  | 4 => ⟨S4x256x512, .f32⟩
  | 5 => ⟨S4x256x1792, .f32⟩
  | 6 => ⟨S4x4352x1024, .f32⟩
  | 7 => ⟨S4x4352x512, .f32⟩
  | 8 => ⟨S4x4352x512, .f32⟩
  | 9 => ⟨S4x4352x512, .f32⟩
  | 10 => ⟨S4x4352x1792, .f32⟩
  | 11 => ⟨S4x4352x512, .bf16⟩
  | 12 => ⟨S4x4352x512, .bf16⟩
  | 13 => ⟨S4x4352x512, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_v72 : Ref sig .tc := ⟨.hbm, 100, rfl⟩
abbrev main_cst_9 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_11 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_12 : Ref sig .tc := ⟨.hbm, 119, rfl⟩
abbrev main_v88 : Ref sig .tc := ⟨.hbm, 120, rfl⟩
abbrev main_v89 : Ref sig .tc := ⟨.hbm, 121, rfl⟩
abbrev main_cst_13 : Ref sig .tc := ⟨.hbm, 122, rfl⟩
abbrev main_v90 : Ref sig .tc := ⟨.hbm, 123, rfl⟩
abbrev main_v91 : Ref sig .tc := ⟨.hbm, 124, rfl⟩
abbrev main_cst_14 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_15 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_16 : Ref sig .tc := ⟨.hbm, 147, rfl⟩
abbrev main_v112 : Ref sig .tc := ⟨.hbm, 148, rfl⟩
abbrev main_v113 : Ref sig .tc := ⟨.hbm, 149, rfl⟩
abbrev main_cst_17 : Ref sig .tc := ⟨.hbm, 150, rfl⟩
abbrev main_v114 : Ref sig .tc := ⟨.hbm, 151, rfl⟩
abbrev main_v115 : Ref sig .tc := ⟨.hbm, 152, rfl⟩
abbrev main_cst_18 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_19 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_call1_v0 : Ref sig .tc := ⟨.hbm, 176, rfl⟩
abbrev main_call1_v1 : Ref sig .tc := ⟨.hbm, 177, rfl⟩
abbrev main_call1_cst : Ref sig .tc := ⟨.hbm, 178, rfl⟩
abbrev main_call1_v2 : Ref sig .tc := ⟨.hbm, 179, rfl⟩
abbrev main_call1_v3 : Ref sig .tc := ⟨.hbm, 180, rfl⟩
abbrev main_call1_cst_0 : Ref sig .tc := ⟨.hbm, 181, rfl⟩
abbrev main_call1_v4 : Ref sig .tc := ⟨.hbm, 182, rfl⟩
abbrev main_call1_v5 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_20 : Ref sig .tc := ⟨.hbm, 193, rfl⟩
abbrev main_v146 : Ref sig .tc := ⟨.hbm, 194, rfl⟩
abbrev main_v147 : Ref sig .tc := ⟨.hbm, 195, rfl⟩
abbrev main_cst_21 : Ref sig .tc := ⟨.hbm, 196, rfl⟩
abbrev main_v148 : Ref sig .tc := ⟨.hbm, 197, rfl⟩
abbrev main_v149 : Ref sig .tc := ⟨.hbm, 198, rfl⟩
abbrev main_cst_22 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_23 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_24 : Ref sig .tc := ⟨.hbm, 224, rfl⟩
abbrev main_v173 : Ref sig .tc := ⟨.hbm, 225, rfl⟩
abbrev main_v174 : Ref sig .tc := ⟨.hbm, 226, rfl⟩
abbrev main_cst_25 : Ref sig .tc := ⟨.hbm, 227, rfl⟩
abbrev main_v175 : Ref sig .tc := ⟨.hbm, 228, rfl⟩
abbrev main_v176 : Ref sig .tc := ⟨.hbm, 229, rfl⟩
abbrev main_cst_26 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_cst_27 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_28 : Ref sig .tc := ⟨.hbm, 245, rfl⟩
abbrev main_v190 : Ref sig .tc := ⟨.hbm, 246, rfl⟩
abbrev main_v191 : Ref sig .tc := ⟨.hbm, 247, rfl⟩
abbrev main_cst_29 : Ref sig .tc := ⟨.hbm, 248, rfl⟩
abbrev main_v192 : Ref sig .tc := ⟨.hbm, 249, rfl⟩
abbrev main_v193 : Ref sig .tc := ⟨.hbm, 250, rfl⟩
abbrev main_cst_30 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩

abbrev nD : Nat := 1
abbrev τ : Topo := Topo.v7x

variable {F : FTy → Type} [FloatOps F]
-- ==== Back.lean ====
abbrev S4x4352x1024 : Shape := ⟨3, ![4, 4352, 1024]⟩
abbrev S4x9x1024 : Shape := ⟨3, ![4, 9, 1024]⟩
abbrev S1x9x1024 : Shape := ⟨3, ![1, 9, 1024]⟩
abbrev S3x1024 : Shape := ⟨2, ![3, 1024]⟩
abbrev S4x4352x512 : Shape := ⟨3, ![4, 4352, 512]⟩
abbrev S512 : Shape := ⟨1, ![512]⟩
abbrev S4x1024x1024 : Shape := ⟨3, ![4, 1024, 1024]⟩
abbrev S4x2x1024x5632 : Shape := ⟨4, ![4, 2, 1024, 5632]⟩
abbrev S4x2x2816x1024 : Shape := ⟨4, ![4, 2, 2816, 1024]⟩
abbrev S4x1x9x1024 : Shape := ⟨4, ![4, 1, 9, 1024]⟩
abbrev S4x2x9x1024 : Shape := ⟨4, ![4, 2, 9, 1024]⟩
abbrev S1x512 : Shape := ⟨2, ![1, 512]⟩
abbrev S1x256x1024 : Shape := ⟨3, ![1, 256, 1024]⟩
abbrev S1x1x9x1024 : Shape := ⟨4, ![1, 1, 9, 1024]⟩
abbrev S1x256x512 : Shape := ⟨3, ![1, 256, 512]⟩
abbrev S1x1024x1024 : Shape := ⟨3, ![1, 1024, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S256x1024 : Shape := ⟨2, ![256, 1024]⟩
abbrev S1x1024 : Shape := ⟨2, ![1, 1024]⟩
abbrev S1x1x1024x2816 : Shape := ⟨4, ![1, 1, 1024, 2816]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 24
  | .vmem => 22
  | .smem => 0
  | _ => 0

abbrev bufTy : (tb : Table) → Fin (tcTables nBuf tb) → BufTy
  | .hbm, ⟨0, _⟩ => ⟨S4x4352x1024, .f32⟩
  | .hbm, ⟨1, _⟩ => ⟨S4x9x1024, .f32⟩
  | .hbm, ⟨2, _⟩ => ⟨S1x9x1024, .f32⟩
  | .hbm, ⟨3, _⟩ => ⟨S3x1024, .f32⟩
  | .hbm, ⟨4, _⟩ => ⟨S4x4352x512, .bf16⟩
  | .hbm, ⟨5, _⟩ => ⟨S4x4352x512, .f32⟩
  | .hbm, ⟨6, _⟩ => ⟨S4x4352x512, .f32⟩
  | .hbm, ⟨7, _⟩ => ⟨S4x4352x512, .f32⟩
  | .hbm, ⟨8, _⟩ => ⟨S4x4352x512, .f32⟩
  | .hbm, ⟨9, _⟩ => ⟨S512, .f32⟩
  | .hbm, ⟨10, _⟩ => ⟨S512, .f32⟩
  | .hbm, ⟨11, _⟩ => ⟨S4x1024x1024, .f32⟩
  | .hbm, ⟨12, _⟩ => ⟨S4x2x1024x5632, .f32⟩
  | .hbm, ⟨13, _⟩ => ⟨S4x2x2816x1024, .f32⟩
  | .hbm, ⟨14, _⟩ => ⟨S4x9x1024, .f32⟩
  | .hbm, ⟨15, _⟩ => ⟨S4x1x9x1024, .f32⟩
  | .hbm, ⟨16, _⟩ => ⟨S4x1x9x1024, .f32⟩
  | .hbm, ⟨17, _⟩ => ⟨S4x2x9x1024, .f32⟩
  | .hbm, ⟨18, _⟩ => ⟨S1x512, .f32⟩
  | .hbm, ⟨19, _⟩ => ⟨S1x512, .f32⟩
  | .hbm, ⟨20, _⟩ => ⟨S4x1024x1024, .bf16⟩
  | .hbm, ⟨21, _⟩ => ⟨S4x2x1024x5632, .bf16⟩
  | .hbm, ⟨22, _⟩ => ⟨S4x2x2816x1024, .bf16⟩
  | .hbm, ⟨23, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S3x1024, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x512, .f32⟩
  | .local _ .vmem, ⟨16, _⟩ => ⟨S1x512, .f32⟩
  | .local _ .vmem, ⟨17, _⟩ => ⟨S1x1024x1024, .bf16⟩
  | .local _ .vmem, ⟨18, _⟩ => ⟨S1x1x1024x5632, .bf16⟩
  | .local _ .vmem, ⟨19, _⟩ => ⟨S1x1x2816x1024, .bf16⟩
  | .local _ .vmem, ⟨20, _⟩ => ⟨S1x256x1024, .f32⟩
  | .local _ .vmem, ⟨21, _⟩ => ⟨S1x256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== BackRefIdeal.lean ====
abbrev S4x4352x1024 : Shape := ⟨3, ![4, 4352, 1024]⟩
abbrev S4x9x1024 : Shape := ⟨3, ![4, 9, 1024]⟩
abbrev S1x9x1024 : Shape := ⟨3, ![1, 9, 1024]⟩
abbrev S3x1024 : Shape := ⟨2, ![3, 1024]⟩
abbrev S4x4352x512 : Shape := ⟨3, ![4, 4352, 512]⟩
abbrev S512 : Shape := ⟨1, ![512]⟩
abbrev S4x1024x1024 : Shape := ⟨3, ![4, 1024, 1024]⟩
abbrev S4x2x1024x5632 : Shape := ⟨4, ![4, 2, 1024, 5632]⟩
abbrev S4x2x2816x1024 : Shape := ⟨4, ![4, 2, 2816, 1024]⟩
abbrev S4x256x1024 : Shape := ⟨3, ![4, 256, 1024]⟩
abbrev S4x256x512 : Shape := ⟨3, ![4, 256, 512]⟩
abbrev S4x4096x1024 : Shape := ⟨3, ![4, 4096, 1024]⟩
abbrev S4x4096x512 : Shape := ⟨3, ![4, 4096, 512]⟩
abbrev S1x1x1024 : Shape := ⟨3, ![1, 1, 1024]⟩
abbrev S4x256x8x64 : Shape := ⟨4, ![4, 256, 8, 64]⟩
abbrev S_ : Shape := ⟨0, ![]⟩
abbrev S4x256x8 : Shape := ⟨3, ![4, 256, 8]⟩
abbrev S4x256x8x1 : Shape := ⟨4, ![4, 256, 8, 1]⟩
abbrev S1x1x512 : Shape := ⟨3, ![1, 1, 512]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x256 : Shape := ⟨2, ![4, 256]⟩
abbrev S4x256x1 : Shape := ⟨3, ![4, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x256x5632 : Shape := ⟨3, ![4, 256, 5632]⟩
abbrev S4x256x2816 : Shape := ⟨3, ![4, 256, 2816]⟩
abbrev S4x1x1024 : Shape := ⟨3, ![4, 1, 1024]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S4x4096 : Shape := ⟨2, ![4, 4096]⟩
abbrev S4x4096x1 : Shape := ⟨3, ![4, 4096, 1]⟩
abbrev S4x4096x5632 : Shape := ⟨3, ![4, 4096, 5632]⟩
abbrev S4x4096x2816 : Shape := ⟨3, ![4, 4096, 2816]⟩

abbrev nBuf : Space → Nat
  | .hbm => 223
  | .vmem => 0
  | .smem => 0
  | _ => 0

abbrev hbmTy0_0 (i : Nat) : BufTy := match i % 128 with
  | 0 => ⟨S4x4352x1024, .f32⟩
  | 1 => ⟨S4x9x1024, .f32⟩
  | 2 => ⟨S1x9x1024, .f32⟩
  | 3 => ⟨S3x1024, .f32⟩
  | 4 => ⟨S4x4352x512, .bf16⟩
  | 5 => ⟨S4x4352x512, .f32⟩
  | 6 => ⟨S4x4352x512, .f32⟩
  | 7 => ⟨S4x4352x512, .f32⟩
  | 8 => ⟨S4x4352x512, .f32⟩
  | 9 => ⟨S512, .f32⟩
  | 10 => ⟨S512, .f32⟩
  | 11 => ⟨S4x1024x1024, .f32⟩
  | 12 => ⟨S4x2x1024x5632, .f32⟩
  | 13 => ⟨S4x2x2816x1024, .f32⟩
  | 14 => ⟨S4x4352x512, .f32⟩
  | 15 => ⟨S4x4352x512, .f32⟩
  | 16 => ⟨S4x256x1024, .f32⟩
  | 17 => ⟨S4x256x512, .f32⟩
  | 18 => ⟨S4x256x512, .f32⟩
  | 19 => ⟨S4x256x512, .f32⟩
  | 20 => ⟨S4x256x512, .f32⟩
  | 21 => ⟨S4x4096x1024, .f32⟩
  | 22 => ⟨S4x4096x512, .f32⟩
  | 23 => ⟨S4x4096x512, .f32⟩
  | 24 => ⟨S4x4096x512, .f32⟩
  | 25 => ⟨S4x4096x512, .f32⟩
  | 26 => ⟨S1x1x1024, .f32⟩
  | 27 => ⟨S1x1x1024, .f32⟩
  | 28 => ⟨S1x1x1024, .f32⟩
  | 29 => ⟨S1x1x1024, .f32⟩
  | 30 => ⟨S1x1x1024, .f32⟩
  | 31 => ⟨S1x1x1024, .f32⟩
  | 32 => ⟨S1x1x1024, .f32⟩
  | 33 => ⟨S1x1x1024, .f32⟩
  | 34 => ⟨S1x1x1024, .f32⟩
  | 35 => ⟨S4x256x8x64, .f32⟩
  | 36 => ⟨S_, .f32⟩
  | 37 => ⟨S4x256x8, .f32⟩
  | 38 => ⟨S4x256x8x1, .f32⟩
  | 39 => ⟨S_, .f32⟩
  | 40 => ⟨S4x256x8x1, .f32⟩
  | 41 => ⟨S4x256x8x1, .f32⟩
  | 42 => ⟨S4x256x8x64, .f32⟩
  | 43 => ⟨S4x256x8x64, .f32⟩
  | 44 => ⟨S4x256x8x64, .f32⟩
  | 45 => ⟨S_, .f32⟩
  | 46 => ⟨S4x256x8, .f32⟩
  | 47 => ⟨S4x256x8x1, .f32⟩
  | 48 => ⟨S_, .f32⟩
  | 49 => ⟨S4x256x8x1, .f32⟩
  | 50 => ⟨S4x256x8x1, .f32⟩
  | 51 => ⟨S4x256x8x64, .f32⟩
  | 52 => ⟨S4x256x8x64, .f32⟩
  | 53 => ⟨S_, .f32⟩
  | 54 => ⟨S4x256x8x1, .f32⟩
  | 55 => ⟨S4x256x8x1, .f32⟩
  | 56 => ⟨S4x256x8x1, .f32⟩
  | 57 => ⟨S4x256x8x64, .f32⟩
  | 58 => ⟨S4x256x8x64, .f32⟩
  | 59 => ⟨S4x256x512, .f32⟩
  | 60 => ⟨S1x1x512, .f32⟩
  | 61 => ⟨S4x256x512, .f32⟩
  | 62 => ⟨S4x256x512, .f32⟩
  | 63 => ⟨S1x1x512, .f32⟩
  | 64 => ⟨S4x256x512, .f32⟩
  | 65 => ⟨S4x256x512, .f32⟩
  | 66 => ⟨S4x256x512, .f32⟩
  | 67 => ⟨S4x256x512, .f32⟩
  | 68 => ⟨S4x256x1024, .f32⟩
  | 69 => ⟨S1x1024x1024, .f32⟩
  | 70 => ⟨S1024x1024, .f32⟩
  | 71 => ⟨S4x256x1024, .f32⟩
  | 72 => ⟨S4x256x1024, .f32⟩
  | 73 => ⟨S4x256x1024, .f32⟩
  | 74 => ⟨S4x256x1024, .f32⟩
  | 75 => ⟨S_, .f32⟩
  | 76 => ⟨S1x1x1024, .f32⟩
  | 77 => ⟨S1x1x1024, .f32⟩
  | 78 => ⟨S1x1024, .f32⟩
  | 79 => ⟨S1024, .f32⟩
  | 80 => ⟨S4x256x1024, .f32⟩
  | 81 => ⟨S_, .f32⟩
  | 82 => ⟨S4x256, .f32⟩
  | 83 => ⟨S4x256x1, .f32⟩
  | 84 => ⟨S_, .f32⟩
  | 85 => ⟨S4x256x1, .f32⟩
  | 86 => ⟨S4x256x1, .f32⟩
  | 87 => ⟨S_, .f32⟩
  | 88 => ⟨S4x256x1, .f32⟩
  | 89 => ⟨S4x256x1, .f32⟩
  | 90 => ⟨S4x256x1, .f32⟩
  | 91 => ⟨S4x256x1024, .f32⟩
  | 92 => ⟨S4x256x1024, .f32⟩
  | 93 => ⟨S1x1x1024, .f32⟩
  | 94 => ⟨S4x256x1024, .f32⟩
  | 95 => ⟨S4x256x1024, .f32⟩
  | 96 => ⟨S_, .f32⟩
  | 97 => ⟨S1x1x1024, .f32⟩
  | 98 => ⟨S1x1x1024, .f32⟩
  | 99 => ⟨S4x256x1024, .f32⟩
  | 100 => ⟨S4x256x1024, .f32⟩
  | 101 => ⟨S4x256x1024, .f32⟩
  | 102 => ⟨S4x256x1024, .f32⟩
  | 103 => ⟨S1x1x1024x5632, .f32⟩
  | 104 => ⟨S1024x5632, .f32⟩
  | 105 => ⟨S1x1x2816x1024, .f32⟩
  | 106 => ⟨S2816x1024, .f32⟩
  | 107 => ⟨S4x256x5632, .f32⟩
  | 108 => ⟨S4x256x2816, .f32⟩
  | 109 => ⟨S4x256x2816, .f32⟩
  | 110 => ⟨S4x256x2816, .f32⟩
  | 111 => ⟨S4x256x2816, .f32⟩
  | 112 => ⟨S_, .f32⟩
  | 113 => ⟨S4x256x2816, .f32⟩
  | 114 => ⟨S4x256x2816, .f32⟩
  | 115 => ⟨S_, .f32⟩
  | 116 => ⟨S4x256x2816, .f32⟩
  | 117 => ⟨S4x256x2816, .f32⟩
  | 118 => ⟨S4x256x2816, .f32⟩
  | 119 => ⟨S4x256x2816, .f32⟩
  | 120 => ⟨S4x256x1024, .f32⟩
  | 121 => ⟨S4x256x1024, .f32⟩
  | 122 => ⟨S4x256x1024, .f32⟩
  | 123 => ⟨S4x256x1024, .f32⟩
  | 124 => ⟨S4x1x1024, .f32⟩
  | 125 => ⟨S4x1x1024, .f32⟩
  | 126 => ⟨S4x1x1024, .f32⟩
  | 127 => ⟨S4x1x1024, .f32⟩
  | _ => ⟨S4x4352x1024, .f32⟩

abbrev hbmTy0_1 (i : Nat) : BufTy := match i % 128 with
  | 0 => ⟨S4x1x1024, .f32⟩
  | 1 => ⟨S4x1x1024, .f32⟩
  | 2 => ⟨S4x1x1024, .f32⟩
  | 3 => ⟨S4x1x1024, .f32⟩
  | 4 => ⟨S4x1x1024, .f32⟩
  | 5 => ⟨S4x4096x8x64, .f32⟩
  | 6 => ⟨S_, .f32⟩
  | 7 => ⟨S4x4096x8, .f32⟩
  | 8 => ⟨S4x4096x8x1, .f32⟩
  | 9 => ⟨S_, .f32⟩
  | 10 => ⟨S4x4096x8x1, .f32⟩
  | 11 => ⟨S4x4096x8x1, .f32⟩
  | 12 => ⟨S4x4096x8x64, .f32⟩
  | 13 => ⟨S4x4096x8x64, .f32⟩
  | 14 => ⟨S4x4096x8x64, .f32⟩
  | 15 => ⟨S_, .f32⟩
  | 16 => ⟨S4x4096x8, .f32⟩
  | 17 => ⟨S4x4096x8x1, .f32⟩
  | 18 => ⟨S_, .f32⟩
  | 19 => ⟨S4x4096x8x1, .f32⟩
  | 20 => ⟨S4x4096x8x1, .f32⟩
  | 21 => ⟨S4x4096x8x64, .f32⟩
  | 22 => ⟨S4x4096x8x64, .f32⟩
  | 23 => ⟨S_, .f32⟩
  | 24 => ⟨S4x4096x8x1, .f32⟩
  | 25 => ⟨S4x4096x8x1, .f32⟩
  | 26 => ⟨S4x4096x8x1, .f32⟩
  | 27 => ⟨S4x4096x8x64, .f32⟩
  | 28 => ⟨S4x4096x8x64, .f32⟩
  | 29 => ⟨S4x4096x512, .f32⟩
  | 30 => ⟨S1x1x512, .f32⟩
  | 31 => ⟨S4x4096x512, .f32⟩
  | 32 => ⟨S4x4096x512, .f32⟩
  | 33 => ⟨S1x1x512, .f32⟩
  | 34 => ⟨S4x4096x512, .f32⟩
  | 35 => ⟨S4x4096x512, .f32⟩
  | 36 => ⟨S4x4096x512, .f32⟩
  | 37 => ⟨S4x4096x512, .f32⟩
  | 38 => ⟨S4x4096x1024, .f32⟩
  | 39 => ⟨S1x1024x1024, .f32⟩
  | 40 => ⟨S1024x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S_, .f32⟩
  | 46 => ⟨S4x1x1024, .f32⟩
  | 47 => ⟨S4x1x1024, .f32⟩
  | 48 => ⟨S1x1024, .f32⟩
  | 49 => ⟨S1024, .f32⟩
  | 50 => ⟨S4x4096x1024, .f32⟩
  | 51 => ⟨S_, .f32⟩
  | 52 => ⟨S4x4096, .f32⟩
  | 53 => ⟨S4x4096x1, .f32⟩
  | 54 => ⟨S_, .f32⟩
  | 55 => ⟨S4x4096x1, .f32⟩
  | 56 => ⟨S4x4096x1, .f32⟩
  | 57 => ⟨S_, .f32⟩
  | 58 => ⟨S4x4096x1, .f32⟩
  | 59 => ⟨S4x4096x1, .f32⟩
  | 60 => ⟨S4x4096x1, .f32⟩
  | 61 => ⟨S4x4096x1024, .f32⟩
  | 62 => ⟨S4x4096x1024, .f32⟩
  | 63 => ⟨S1x1x1024, .f32⟩
  | 64 => ⟨S4x4096x1024, .f32⟩
  | 65 => ⟨S4x4096x1024, .f32⟩
  | 66 => ⟨S_, .f32⟩
  | 67 => ⟨S4x1x1024, .f32⟩
  | 68 => ⟨S4x1x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S1x1x1024x5632, .f32⟩
  | 74 => ⟨S1024x5632, .f32⟩
  | 75 => ⟨S1x1x2816x1024, .f32⟩
  | 76 => ⟨S2816x1024, .f32⟩
  | 77 => ⟨S4x4096x5632, .f32⟩
  | 78 => ⟨S4x4096x2816, .f32⟩
  | 79 => ⟨S4x4096x2816, .f32⟩
  | 80 => ⟨S4x4096x2816, .f32⟩
  | 81 => ⟨S4x4096x2816, .f32⟩
  | 82 => ⟨S_, .f32⟩
  | 83 => ⟨S4x4096x2816, .f32⟩
  | 84 => ⟨S4x4096x2816, .f32⟩
  | 85 => ⟨S_, .f32⟩
  | 86 => ⟨S4x4096x2816, .f32⟩
  | 87 => ⟨S4x4096x2816, .f32⟩
  | 88 => ⟨S4x4096x2816, .f32⟩
  | 89 => ⟨S4x4096x2816, .f32⟩
  | 90 => ⟨S4x4096x1024, .f32⟩
  | 91 => ⟨S4x4096x1024, .f32⟩
  | 92 => ⟨S4x4096x1024, .f32⟩
  | 93 => ⟨S4x4096x1024, .f32⟩
  | 94 => ⟨S4x4352x1024, .f32⟩
  | _ => ⟨S4x4352x1024, .f32⟩

abbrev hbmTy (i : Nat) : BufTy := match i / 128 with
  | 0 => hbmTy0_0 i
  | 1 => hbmTy0_1 i
  | _ => ⟨S4x4352x1024, .f32⟩

abbrev bufTy : (tb : Table) → Fin (tcTables nBuf tb) → BufTy
  | .hbm, ⟨i, _⟩ => hbmTy i
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_4 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_call0_v0 : Ref sig .tc := ⟨.hbm, 110, rfl⟩
abbrev main_call0_v1 : Ref sig .tc := ⟨.hbm, 111, rfl⟩
abbrev main_call0_cst : Ref sig .tc := ⟨.hbm, 112, rfl⟩
abbrev main_call0_v2 : Ref sig .tc := ⟨.hbm, 113, rfl⟩
abbrev main_call0_v3 : Ref sig .tc := ⟨.hbm, 114, rfl⟩
abbrev main_call0_cst_0 : Ref sig .tc := ⟨.hbm, 115, rfl⟩
abbrev main_call0_v4 : Ref sig .tc := ⟨.hbm, 116, rfl⟩
abbrev main_call0_v5 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_9 : Ref sig .tc := ⟨.hbm, 134, rfl⟩
abbrev main_v102 : Ref sig .tc := ⟨.hbm, 135, rfl⟩
abbrev main_v103 : Ref sig .tc := ⟨.hbm, 136, rfl⟩
abbrev main_cst_10 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_11 : Ref sig .tc := ⟨.hbm, 143, rfl⟩
abbrev main_v109 : Ref sig .tc := ⟨.hbm, 144, rfl⟩
abbrev main_v110 : Ref sig .tc := ⟨.hbm, 145, rfl⟩
abbrev main_cst_12 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_13 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_14 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_15 : Ref sig .tc := ⟨.hbm, 179, rfl⟩
abbrev main_v141 : Ref sig .tc := ⟨.hbm, 180, rfl⟩
abbrev main_v142 : Ref sig .tc := ⟨.hbm, 181, rfl⟩
abbrev main_cst_16 : Ref sig .tc := ⟨.hbm, 182, rfl⟩
abbrev main_v143 : Ref sig .tc := ⟨.hbm, 183, rfl⟩
abbrev main_v144 : Ref sig .tc := ⟨.hbm, 184, rfl⟩
abbrev main_cst_17 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_18 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_call1_v0 : Ref sig .tc := ⟨.hbm, 208, rfl⟩
abbrev main_call1_v1 : Ref sig .tc := ⟨.hbm, 209, rfl⟩
abbrev main_call1_cst : Ref sig .tc := ⟨.hbm, 210, rfl⟩
abbrev main_call1_v2 : Ref sig .tc := ⟨.hbm, 211, rfl⟩
abbrev main_call1_v3 : Ref sig .tc := ⟨.hbm, 212, rfl⟩
abbrev main_call1_cst_0 : Ref sig .tc := ⟨.hbm, 213, rfl⟩
abbrev main_call1_v4 : Ref sig .tc := ⟨.hbm, 214, rfl⟩
abbrev main_call1_v5 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩

abbrev nD : Nat := 1
abbrev τ : Topo := Topo.v7x

variable {F : FTy → Type} [FloatOps F]
-- ==== Proof.Attn.IdealFrame.lean ====
/-
  The attention call's frame, at bits. The body stores into a part of its output window at each point, so what the window
  holds between the points of a row of the grid depends on what it held at the first of them: the output window is left
  unnamed here, and the frame needs nothing of it. The four inputs are named: their blocks stay in place.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The bias scratch, whole. -/
abbrev biasM : Memref sig .tc .vmem S2x512x960 .f32 := Memref.whole cc0_scratch0

/-- The body at any grid point, from its inputs at any contents and its output window and scratch at anything: it returns
    with the inputs as they were. -/
theorem attn_any (c : Dev nD) (i : grid0.Coords)
    (qM : Memref sig .tc .vmem S1x4352x128 .bf16) (hq : qM.IsWhole) (kM : Memref sig .tc .vmem S1x4352x128 .bf16) (hk : kM.IsWhole)
    (vM : Memref sig .tc .vmem S1x4352x128 .bf16) (hv : vM.IsWhole) (tM : Memref sig .tc .vmem S2x2x64x2048 .f32) (ht : tM.IsWhole)
    (oM : Memref sig .tc .vmem S1x4352x128 .bf16) (ho : oM.IsWhole)
    (xq xk xv : Vec F S1x4352x128 .bf16) (xt : Vec F S2x2x64x2048 .f32) (K : PUnit → sProp 𝕄) :
    iprop(owns (c : Thread nD τ) qM fullShare xq ∗ owns (c : Thread nD τ) kM fullShare xk
        ∗ owns (c : Thread nD τ) vM fullShare xv ∗ owns (c : Thread nD τ) tM fullShare xt
        ∗ (∃ d, owns (c : Thread nD τ) oM fullShare d) ∗ (∃ d, owns (c : Thread nD τ) biasM fullShare d)
        ∗ (iprop(owns (c : Thread nD τ) qM fullShare xq ∗ owns (c : Thread nD τ) kM fullShare xk
            ∗ owns (c : Thread nD τ) vM fullShare xv ∗ owns (c : Thread nD τ) tM fullShare xt
            ∗ (∃ d, owns (c : Thread nD τ) oM fullShare d) ∗ (∃ d, owns (c : Thread nD τ) biasM fullShare d)) -∗ K ⟨⟩))
      ⊢ wp frame (wpE (defs₀ (F := F)) Variants.none c none) Set.univ
          (cc0__attn_kernel i qM hq kM hk vM hv tM ht oM ho biasM (Memref.isWhole_whole _)) K := by
  simp only [cc0__attn_kernel_eq_skeleton]; unfold cc0__attn_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton]
  unfold owns
  iintro ⟨⟨%fq, %eq, Hq⟩, ⟨%fk, %ek, Hk⟩, ⟨%fv, %ev, Hv⟩, ⟨%ft, %et, Ht⟩, ⟨%d, %fo, -, Ho⟩, ⟨%ds, %fs, -, Hs⟩, HK⟩
  subst eq ek ev et
  sl_exec
  sl_step
  iapply HK
  isplitl [Hq]
  · iexists fq; isplitr; · ipureintro; rfl
    iexact Hq
  isplitl [Hk]
  · iexists fk; isplitr; · ipureintro; rfl
    iexact Hk
  isplitl [Hv]
  · iexists fv; isplitr; · ipureintro; rfl
    iexact Hv
  isplitl [Ht]
  · iexists ft; isplitr; · ipureintro; rfl
    iexact Ht
  isplitl [Ho]
  · iexists _, _; isplitr; swap; · iexact Ho
    ipureintro; rfl
  iexists _, _; isplitr; swap; · iexact Hs
  ipureintro; rfl

/-! ## The proof data -/

/-- The output window is the one left unnamed. -/
def unnamedOut : Fin 5 → Bool := fun w => w = 4

/-- The proof data: the arrays as the region finds them, the inputs' blocks left in place, the scratch and the generator
    register at anything, nothing owed. -/
def attnDat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem attnDat_A (c : Dev nD) (w : Fin cfg0.W) : (attnDat m 0 c).A w = V m c (Pipeline.arrRef spec0 w) := by
  dsimp only [attnDat]
theorem left_q (c : Dev nD) (t : Fin cfg0.N) : (attnDat m 0 c).after 0 t = iblk m c 0 t := by dsimp only [attnDat]
theorem left_k (c : Dev nD) (t : Fin cfg0.N) : (attnDat m 0 c).after 1 t = iblk m c 1 t := by dsimp only [attnDat]
theorem left_v (c : Dev nD) (t : Fin cfg0.N) : (attnDat m 0 c).after 2 t = iblk m c 2 t := by dsimp only [attnDat]
theorem left_tab (c : Dev nD) (t : Fin cfg0.N) : (attnDat m 0 c).after 3 t = iblk m c 3 t := by dsimp only [attnDat]

/-- The invariant, conjunct by conjunct: the scratch at some contents, the register at some state. -/
theorem inv_eq (c : Dev nD) :
    (Pipeline.ΦA spec0 c : sProp 𝕄) = iprop((∃ d, owns (c : Thread nD τ) biasM fullShare d) ∗ ∃ r, prngReg c r) := by
  unfold Pipeline.ΦA; rw [scopedRest0_eq]; simp only [biasM, owns_whole]; try rfl

/-- What the body starts from at a point. -/
def attnPre (c : Dev nD) (t : Fin cfg0.N) : sProp 𝕄 :=
  iprop((attnDat m 0 c).Φ t.castSucc ∗ (attnDat m 0 c).owesAt () t.castSucc
    ∗ (∃ d, owns (c : Thread nD τ) (st0_0 t) fullShare ((attnDat m 0 c).before 0 t d))
    ∗ (∃ d, owns (c : Thread nD τ) (st0_1 t) fullShare ((attnDat m 0 c).before 1 t d))
    ∗ (∃ d, owns (c : Thread nD τ) (st0_2 t) fullShare ((attnDat m 0 c).before 2 t d))
    ∗ (∃ d, owns (c : Thread nD τ) (st0_3 t) fullShare ((attnDat m 0 c).before 3 t d))
    ∗ (∃ d, owns (c : Thread nD τ) (st0_4 t) fullShare d))

/-- What it leaves. -/
def attnPost (c : Dev nD) (t : Fin cfg0.N) : sProp 𝕄 :=
  iprop((attnDat m 0 c).Φ t.succ ∗ (attnDat m 0 c).owesAt () t.succ
    ∗ owns (c : Thread nD τ) (st0_0 t) fullShare ((attnDat m 0 c).after 0 t)
    ∗ owns (c : Thread nD τ) (st0_1 t) fullShare ((attnDat m 0 c).after 1 t)
    ∗ owns (c : Thread nD τ) (st0_2 t) fullShare ((attnDat m 0 c).after 2 t)
    ∗ owns (c : Thread nD τ) (st0_3 t) fullShare ((attnDat m 0 c).after 3 t)
    ∗ (∃ d, owns (c : Thread nD τ) (st0_4 t) fullShare d))

/-- The body at any point: the inputs' memrefs hold their blocks, so `attn_any` applies. -/
theorem attn_point (c : Dev nD) (t : Fin cfg0.N) :
    attnPre m c t ⊢ wp frame (wpE (defs₀ (F := F)) Variants.none c none) Set.univ (bodyAt0 t) (fun _ => attnPost m c t) := by
  unfold attnPre attnPost bodyAt0
  simp only [before0_0_of m (attnDat m 0 c) (attnDat_A m c 0) (left_q m c), before0_1_of m (attnDat m 0 c) (attnDat_A m c 1) (left_k m c),
    before0_2_of m (attnDat m 0 c) (attnDat_A m c 2) (left_v m c), before0_3_of m (attnDat m 0 c) (attnDat_A m c 3) (left_tab m c)]
  rw [show (attnDat m 0 c).Φ t.castSucc = Pipeline.ΦA spec0 c from rfl,
    show (attnDat m 0 c).Φ t.succ = Pipeline.ΦA spec0 c from rfl,
    show (attnDat m 0 c).owesAt () t.succ = (attnDat m 0 c).owesAt () t.castSucc from rfl,
    left_q, left_k, left_v, left_tab, inv_eq]
  iintro ⟨⟨Hs, Hg⟩, Hw, ⟨%d0, H0⟩, ⟨%d1, H1⟩, ⟨%d2, H2⟩, ⟨%d3, H3⟩, H4⟩
  iapply (attn_any c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hg]
  · isplitl [Hs]; · iexact Hs
    iexact Hg
  isplitl [Hw]; · iexact Hw
  isplitl [H0]; · iexact H0
  isplitl [H1]; · iexact H1
  isplitl [H2]; · iexact H2
  isplitl [H3]; · iexact H3
  iexact H4

/-- The body table's row at a point is the body as `bodyAt0` spells it. -/
theorem row (t : Fin cfg0.N) : defs₀ (F := F) .tc cfg0.body (cfg0.bodyArgs t (cfg0.slots t)) = bodyAt0 t := by
  unfold defs₀; rw [Defs.onTc_tc]

/-- The pipeline's body obligation, the output window unnamed. -/
theorem attn_obligation (c : Dev nD) :
    BodyObligation (attnDat (F := F) m 0 c) (defs₀ (F := F)) Variants.none () Set.univ unnamedOut := fun t => by
  rw [bigSep_W0, bigSep_W0, row]
  exact triple_restated (attn_point m c t) rfl .rfl fun _ => .rfl

variable [∀ e, Nonempty (Elt F e)]

set_option backward.isDefEq.respectTransparency.types false in
/-- Every execution ends with the arguments as launched and every counter at zero. -/
theorem attn_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (attnDat m) (0 : Fin 1) launch0 defs₀ Variants.none unnamedOut m ρ main
    (hbody := fun c => (attn_obligation m c).loose) (hshare := fun c => (attnDat m 0 c).share_full fun _ => rfl)
    (howed := fun _ _ => rfl) (V := V m) (hmain := hmain m Variants.none) (hA := attnDat_A m)
    (hΦ := fun _ _ => by dsimp only [attnDat]) (Q' := _)
    (hQ' := fun r h => ⟨fun c =>
      ⟨((h.1.arr_in c 0 rfl).trans (attnDat_A m c 0)).trans (V_main_arg0 m c), ((h.1.arr_in c 1 rfl).trans (attnDat_A m c 1)).trans (V_main_arg1 m c),
        ((h.1.arr_in c 2 rfl).trans (attnDat_A m c 2)).trans (V_main_arg2 m c),
        ((h.1 c).2 main_arg3 (Pipeline.mem_restRefs_of main_arg3 (by decide) (by decide))).trans (V_main_arg3 m c)⟩, h.2⟩)

end Cert.KernelIdeal.Attn

end
-- ==== Proof.Layer.lean ====
/- The arithmetic of one row of the residual stream, over the extended reals: the normalisation with its modulation, the
   gated feed-forward, and the normalisation of one head. The front and the back, and their references, are all read
   down to these functions. -/
module

public import Idealize.ShloMosaic.Lib.Pointwise

@[expose] public section

noncomputable section

namespace Cert.Layer

open Idealize.ShloMosaic

/-- The constant 1024 as the programs' literal. -/
abbrev width : EReal := Ideal.ofBits .f32 0x44800000#32
/-- The normalisations' epsilon as the programs' literal. -/
abbrev eps : EReal := Ideal.ofBits .f32 0x358637BD#32
/-- One half as the programs' literal. -/
abbrev half : EReal := Ideal.ofBits .f32 0x3F000000#32

/-- A row divided by its root mean square, times a gain, scaled by `1 + sc` and shifted by `sh`. -/
def modulated (x g sh sc : Fin 1024 → EReal) (k : Fin 1024) : EReal :=
  x k * Ideal.rsqrt (Ideal.div (∑ l, x l * x l) width + eps) * g k * (1 + sc k) + sh k

/-- A row times a matrix. -/
def rowMul {n m : ℕ} (x : Fin n → EReal) (w : Fin n → Fin m → EReal) (j : Fin m) : EReal := ∑ k, x k * w k j

/-- The gated activation of a row of 5632: the first half times its sigmoid, times the second half. -/
def gated (u : Fin 5632 → EReal) (j : Fin 2816) : EReal :=
  u ⟨j.val, by omega⟩ * Ideal.div 1 (1 + Ideal.exp (-u ⟨j.val, by omega⟩)) * u ⟨2816 + j.val, by omega⟩

/-- A half-step of the feed-forward: the row plus half of `m` times the gated feed-forward of the modulated row. -/
def halfStep (x g sh sc m : Fin 1024 → EReal) (wu : Fin 1024 → Fin 5632 → EReal) (wd : Fin 2816 → Fin 1024 → EReal)
    (k : Fin 1024) : EReal :=
  x k + half * m k * rowMul (gated (rowMul (modulated x g sh sc) wu)) wd k

/-- One head of 64 divided by its root mean square, times a gain. -/
def headNorm (p g : Fin 64 → EReal) (i : Fin 64) : EReal :=
  p i * Ideal.rsqrt (Ideal.div (∑ k, p k * p k) (Ideal.ofBits .f32 0x42800000#32) + eps) * g i

/-- A row of the joined stream: the context's 256 rows, then the latent ones. -/
def joined (x : (⟨3, ![4, 4096, 1024]⟩ : Shape).Idx → EReal) (ctx : (⟨3, ![4, 256, 1024]⟩ : Shape).Idx → EReal)
    (b : Fin 4) (n : Fin 4352) (k : Fin 1024) : EReal :=
  if h : n.val < 256 then ctx (ix3 b ⟨n.val, h⟩ k) else x (ix3 b ⟨n.val - 256, by omega⟩ k)

/-- The modulation vectors a row of the joined stream meets: the context's own, or its batch entry's. -/
def modAt (mx : (⟨3, ![4, 9, 1024]⟩ : Shape).Idx → EReal) (ms : (⟨3, ![1, 9, 1024]⟩ : Shape).Idx → EReal)
    (b : Fin 4) (n : Fin 4352) (s : Fin 9) (k : Fin 1024) : EReal :=
  if n.val < 256 then ms (ix3 0 s k) else mx (ix3 b s k)

theorem joined_lo (x : (⟨3, ![4, 4096, 1024]⟩ : Shape).Idx → EReal) (ctx : (⟨3, ![4, 256, 1024]⟩ : Shape).Idx → EReal)
    (b : Fin 4) (n : Fin 4352) (h : n.val < 256) : joined x ctx b n = fun k => ctx (ix3 b ⟨n.val, h⟩ k) :=
  funext fun _ => dif_pos h

theorem joined_hi (x : (⟨3, ![4, 4096, 1024]⟩ : Shape).Idx → EReal) (ctx : (⟨3, ![4, 256, 1024]⟩ : Shape).Idx → EReal)
    (b : Fin 4) (n : Fin 4352) (h : ¬ n.val < 256) : joined x ctx b n = fun k => x (ix3 b ⟨n.val - 256, by omega⟩ k) :=
  funext fun _ => dif_neg h

theorem modAt_lo (mx : (⟨3, ![4, 9, 1024]⟩ : Shape).Idx → EReal) (ms : (⟨3, ![1, 9, 1024]⟩ : Shape).Idx → EReal)
    (b : Fin 4) (n : Fin 4352) (s : Fin 9) (h : n.val < 256) : modAt mx ms b n s = fun k => ms (ix3 0 s k) :=
  funext fun _ => if_pos h

theorem modAt_hi (mx : (⟨3, ![4, 9, 1024]⟩ : Shape).Idx → EReal) (ms : (⟨3, ![1, 9, 1024]⟩ : Shape).Idx → EReal)
    (b : Fin 4) (n : Fin 4352) (s : Fin 9) (h : ¬ n.val < 256) : modAt mx ms b n s = fun k => mx (ix3 b s k) :=
  funext fun _ => if_neg h

section Front

variable (x : (⟨3, ![4, 4096, 1024]⟩ : Shape).Idx → EReal) (ctx : (⟨3, ![4, 256, 1024]⟩ : Shape).Idx → EReal)
  (mx : (⟨3, ![4, 9, 1024]⟩ : Shape).Idx → EReal) (ms : (⟨3, ![1, 9, 1024]⟩ : Shape).Idx → EReal)
  (gain : (⟨2, ![3, 1024]⟩ : Shape).Idx → EReal) (up : (⟨4, ![4, 2, 1024, 5632]⟩ : Shape).Idx → EReal)
  (down : (⟨4, ![4, 2, 2816, 1024]⟩ : Shape).Idx → EReal) (wIn : (⟨3, ![4, 1024, 3328]⟩ : Shape).Idx → EReal)

/-- The front's residual stream at a row. -/
def frontRow (b : Fin 4) (n : Fin 4352) : Fin 1024 → EReal :=
  halfStep (joined x ctx b n) (fun l => gain (ix2 0 l)) (modAt mx ms b n 0) (modAt mx ms b n 1) (modAt mx ms b n 2)
    (fun k j => up (ix4 0 0 k j)) (fun j k => down (ix4 0 0 j k))

/-- The front's projection at a row. -/
def projRow (b : Fin 4) (n : Fin 4352) : Fin 3328 → EReal :=
  rowMul (modulated (frontRow x ctx mx ms gain up down b n) (fun l => gain (ix2 1 l)) (modAt mx ms b n 3) (modAt mx ms b n 4))
    (fun k j => wIn (ix3 0 k j))

/-- A column of the queries or keys: its head, normalised. -/
def headCol (o : Nat) (ho : o ≤ 512) (g : (⟨1, ![64]⟩ : Shape).Idx → EReal) (b : Fin 4) (n : Fin 4352) (c : Fin 512) : EReal :=
  headNorm (fun k => projRow x ctx mx ms gain up down wIn b n ⟨o + 64 * (c.val / 64) + k.val, by omega⟩) (fun k => g (ix1 k))
    ⟨c.val % 64, by omega⟩

end Front

/-- The literals 64 and 1/64 are those numbers, so a product with the one is a quotient by the other. -/
theorem div_64 (x : EReal) : x * Ideal.ofBits .f32 0x3C800000#32 = Ideal.div x (Ideal.ofBits .f32 0x42800000#32) := by
  have h64 : Ideal.ofBits .f32 0x42800000#32 = ((64 : ℝ) : EReal) := by
    simp [Ideal.ofBits, Ideal.ieee, -EReal.coe_mul]; norm_num
  have h : Ideal.ofBits .f32 0x3C800000#32 = ((1 / 64 : ℝ) : EReal) := by
    simp [Ideal.ofBits, Ideal.ieee, -EReal.coe_mul]; norm_num
  rw [h64, h, Ideal.div_coe (by norm_num : (64 : ℝ) ≠ 0)]

/-- Whether a lane of 128 is in the first head, as the comparison's bit. -/
theorem lane_lt (l : Fin 128) : IntOp.cmpi .slt (BitVec.ofNat 32 l.val) 64#32 = if l.val < 64 then 1#1 else 0#1 := by
  revert l; decide +kernel

/-- A sum over 128 lanes that keeps the first head only. -/
theorem sum_low (f : Fin 128 → EReal) :
    (∑ l : Fin 128, if l.val < 64 then f l else 0) = ∑ k : Fin 64, f ⟨k.val, by omega⟩ := by
  rw [Fin.sum_univ_add (a := 64) (b := 64) (fun l => if l.val < 64 then f l else 0)]
  simp [Fin.castAdd, Fin.natAdd, Fin.castLE]

/-- A sum over 128 lanes that keeps the second head only. -/
theorem sum_high (f : Fin 128 → EReal) :
    (∑ l : Fin 128, if l.val < 64 then 0 else f l) = ∑ k : Fin 64, f ⟨64 + k.val, by omega⟩ := by
  rw [Fin.sum_univ_add (a := 64) (b := 64) (fun l => if l.val < 64 then 0 else f l)]
  simp [Fin.castAdd, Fin.natAdd, Fin.castLE]

end Cert.Layer

end
-- ==== Proof.Front.Body.lean ====
/- What the front's body computes from its blocks, element by element. -/
module

public import proofs.«01_k».proof.Proof.Gen.FrontIdeal.Value
public import proofs.«01_k».proof.Proof.Layer
public import Idealize.ShloMosaic.Lib.Pointwise

@[expose] public section

set_option maxRecDepth 16384

noncomputable section

namespace Cert.Front

open Idealize.ShloMosaic Cert.FrontIdeal Cert.FrontIdeal.Gen Cert.Layer

/-- The modulated rows the feed-forward's first products take. -/
theorem pay7_apply (v0 : Vec Ideal S1x1x9x1024 .f32) (v2 : Vec Ideal S1x256x1024 .f32) (v4 : Vec Ideal S1x1024 .f32)
    (r : Fin 256) (k : Fin 1024) :
    k0_pay7 v0 v2 v4 (ix2 r k) = modulated (fun l => v2 (ix3 0 r l)) (fun l => v4 (ix2 0 l))
      (fun l => v0 (ix4 0 0 0 l)) (fun l => v0 (ix4 0 0 1 l)) k := by
  pointwise [k0_pay7, k0_pay5, k0_pay6, modulated]

/-- The gate's half of the first product. -/
theorem pay9_apply (v0 : Vec Ideal S1x1x9x1024 .f32) (v2 : Vec Ideal S1x256x1024 .f32) (v4 : Vec Ideal S1x1024 .f32)
    (w : Vec Ideal S1x1x1024x2816 .bf16) (r : Fin 256) (j : Fin 2816) :
    k0_pay9 v0 v2 v4 w (ix2 r j) = ∑ k, k0_pay7 v0 v2 v4 (ix2 r k) * w (ix4 0 0 k j) := by
  pointwise [k0_pay9]

/-- The other half. -/
theorem pay10_apply (v0 : Vec Ideal S1x1x9x1024 .f32) (v2 : Vec Ideal S1x256x1024 .f32) (v4 : Vec Ideal S1x1024 .f32)
    (w : Vec Ideal S1x1x1024x2816 .bf16) (r : Fin 256) (j : Fin 2816) :
    k0_pay10 v0 v2 v4 w (ix2 r j) = ∑ k, k0_pay7 v0 v2 v4 (ix2 r k) * w (ix4 0 0 k j) := by
  pointwise [k0_pay10]

/-- The residual stream after the half-step, from the two halves of the first product. -/
theorem pay11_apply (v1 : FVec Ideal S9x1024 .f32) (v3 : FVec Ideal S256x1024 .f32) (v29 v32 : FVec Ideal S256x2816 .f32)
    (v43 : Vec Ideal S1x1x2816x1024 .bf16) (r : Fin 256) (k : Fin 1024) :
    k0_pay11 v1 v3 k0_pay8 v29 v32 (Scalar.ofBits .f32 0x00000000#32) v43 (ix2 r k)
      = v3 (ix2 r k) + half * v1 (ix2 2 k)
        * ∑ j, (v29 (ix2 r j) * Ideal.div 1 (1 + Ideal.exp (-v29 (ix2 r j))) * v32 (ix2 r j)) * v43 (ix4 0 0 j k) := by
  pointwise [k0_pay11, k0_pay8]
  simp only [zero_sub]

/-- The second normalisation, scaled. -/
theorem pay14_apply (v1 : FVec Ideal S9x1024 .f32) (v3 v26 : FVec Ideal S256x1024 .f32) (v29 v32 : FVec Ideal S256x2816 .f32)
    (z : Ideal .f32) (v43 : Vec Ideal S1x1x2816x1024 .bf16) (v56 : Vec Ideal S1x1024 .f32) (v78 : Vec Ideal S1x1024x3328 .bf16)
    (r : Fin 256) (j : Fin 3328) :
    k0_pay15 (k0_pay13 v1) (k0_pay14 v1 v3 v26 v29 v32 z v43 v56) v78 (ix2 r j)
      = rowMul (modulated (fun l => k0_pay11 v1 v3 v26 v29 v32 z v43 (ix2 r l)) (fun l => v56 (ix2 0 l))
        (fun l => v1 (ix2 3 l)) (fun l => v1 (ix2 4 l))) (fun k j => v78 (ix3 0 k j)) j := by
  pointwise [k0_pay15, k0_pay13, k0_pay14, modulated, rowMul]

/-- The head normalisation of a chunk of 128 lanes, two heads: the first head's lanes. -/
theorem pay29_low (v : FVec Ideal S256x128 .f32) (g : Vec Ideal S1x128 .f32) (r : Fin 256) (i : Fin 64) :
    k0_pay29 v g (ix2 r ⟨i.val, by omega⟩)
      = headNorm (fun k => v (ix2 r ⟨k.val, by omega⟩)) (fun k => g (ix2 0 ⟨k.val, by omega⟩)) i := by
  pointwise [k0_pay29, headNorm, lane_lt]
  have h := lane_lt ⟨i.val, by omega⟩
  simp only at h
  rw [h, if_pos i.isLt]
  simp only [Scalar.select, ne_eq, one_ne_zero, not_false_eq_true, if_true, Finset.sum_const_zero, add_zero, div_64]
  rfl

/-- The second head's lanes. -/
theorem pay29_high (v : FVec Ideal S256x128 .f32) (g : Vec Ideal S1x128 .f32) (r : Fin 256) (i : Fin 64) :
    k0_pay29 v g (ix2 r ⟨64 + i.val, by omega⟩)
      = headNorm (fun k => v (ix2 r ⟨64 + k.val, by omega⟩)) (fun k => g (ix2 0 ⟨64 + k.val, by omega⟩)) i := by
  pointwise [k0_pay29, headNorm, lane_lt]
  have h := lane_lt ⟨64 + i.val, by omega⟩
  simp only at h
  rw [h, if_neg (by omega)]
  simp only [Scalar.select, ne_eq, not_true_eq_false, if_false, Finset.sum_const_zero, zero_add, div_64]
  rfl

/-- A product with the key gain, a head at a time. -/
def heads (p : FVec Ideal S256x3328 .f32) (g : Vec Ideal S1x128 .f32) (o : Nat) (ho : o ≤ 512) (r : Fin 256) (h : Fin 8) (i : Fin 64) : EReal :=
  headNorm (fun k => p (ix2 r ⟨o + 64 * h.val + k.val, by omega⟩)) (fun k => g (ix2 0 ⟨64 * (h.val % 2) + k.val, by omega⟩)) i

/-- The query columns at a column of the block. -/
def qAt (p : FVec Ideal S256x3328 .f32) (g : Vec Ideal S1x128 .f32) (y : S1x256x512.Idx) : EReal :=
  heads p g 0 (Nat.zero_le _) (y 1) ⟨(y 2).val / 64, by have : (y 2).val < 512 := (y 2).isLt; omega⟩ ⟨(y 2).val % 64, by omega⟩
    * Ideal.ofBits .f32 0x3E000000#32

/-- The key columns at a column of the block. -/
def kAt (p : FVec Ideal S256x3328 .f32) (g : Vec Ideal S1x128 .f32) (y : S1x256x512.Idx) : EReal :=
  heads p g 512 le_rfl (y 1) ⟨(y 2).val / 64, by have : (y 2).val < 512 := (y 2).isLt; omega⟩ ⟨(y 2).val % 64, by omega⟩

theorem qAt_eq (p : FVec Ideal S256x3328 .f32) (g : Vec Ideal S1x128 .f32) (r : Fin 256) (h : Fin 8) (i : Fin 64) (c : Fin 512)
    (hc : c.val = 64 * h.val + i.val) :
    qAt p g (ix3 0 r c) = heads p g 0 (Nat.zero_le _) r h i * Ideal.ofBits .f32 0x3E000000#32 := by
  have e1 : (⟨c.val / 64, by omega⟩ : Fin 8) = h := Fin.ext (by simp; omega)
  have e2 : (⟨c.val % 64, by omega⟩ : Fin 64) = i := Fin.ext (by simp; omega)
  exact congrArg₂ (fun a b => heads p g 0 (Nat.zero_le _) r a b * Ideal.ofBits .f32 0x3E000000#32) e1 e2

theorem kAt_eq (p : FVec Ideal S256x3328 .f32) (g : Vec Ideal S1x128 .f32) (r : Fin 256) (h : Fin 8) (i : Fin 64) (c : Fin 512)
    (hc : c.val = 64 * h.val + i.val) :
    kAt p g (ix3 0 r c) = heads p g 512 le_rfl r h i := by
  have e1 : (⟨c.val / 64, by omega⟩ : Fin 8) = h := Fin.ext (by simp; omega)
  have e2 : (⟨c.val % 64, by omega⟩ : Fin 64) = i := Fin.ext (by simp; omega)
  exact congrArg₂ (fun a b => heads p g 512 le_rfl r a b) e1 e2

/-- The normalisation of a head depends on its numbers alone. -/
theorem headNorm_congr {p p' g g' : Fin 64 → EReal} (hp : ∀ k, p k = p' k) (hg : ∀ k, g k = g' k) (i : Fin 64) :
    headNorm p g i = headNorm p' g' i := by
  rw [funext hp, funext hg]

/-- A chunk of 128 columns from column `o` on, normalised: its lanes are two heads. -/
theorem chunk_apply (p : FVec Ideal S256x3328 .f32) (g : Vec Ideal S1x128 .f32) (o : Nat) (hs : S256x3328.Slices ![0, o] S256x128)
    (b : Nat) (hb : b ≤ 512) (a : Fin 4) (ho : o = b + 128 * a.val) (r : Fin 256) (l : Fin 128) :
    k0_pay29 (extractStridedSlice S256x128 ![0, o] p hs) g (ix2 r l)
      = heads p g b hb r ⟨2 * a.val + l.val / 64, by omega⟩ ⟨l.val % 64, by omega⟩ := by
  rcases Nat.lt_or_ge l.val 64 with hl | hl
  · have e := pay29_low (extractStridedSlice S256x128 ![0, o] p hs) g r ⟨l.val % 64, by omega⟩
    have e0 : (⟨l.val % 64, by omega⟩ : Fin 128) = l := Fin.ext (by simp; omega)
    simp only [e0] at e
    rw [e]
    refine headNorm_congr (fun k => ?_) (fun k => ?_) _
    · refine extractStridedSlice_apply _ _ _ _ _ fun d => ?_
      fin_cases d
      · simp
      · simp; omega
    · refine congrArg g (funext fun d => Fin.ext ?_)
      fin_cases d
      · simp
      · simp; omega
  · have e := pay29_high (extractStridedSlice S256x128 ![0, o] p hs) g r ⟨l.val % 64, by omega⟩
    have e0 : (⟨64 + l.val % 64, by omega⟩ : Fin 128) = l := Fin.ext (by simp; omega)
    simp only [e0] at e
    rw [e]
    refine headNorm_congr (fun k => ?_) (fun k => ?_) _
    · refine extractStridedSlice_apply _ _ _ _ _ fun d => ?_
      fin_cases d
      · simp
      · simp; omega
    · refine congrArg g (funext fun d => Fin.ext ?_)
      fin_cases d
      · simp
      · simp; omega

/-- The projection's columns as the body computes them from its blocks. -/
abbrev proj (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) : FVec Ideal S256x3328 .f32 :=
  k0_pay53 x0 x1 x2 x3 x4 x5 x6 x7

/-- A chunk scaled and stored. -/
theorem k0_pay1_apply (v : FVec Ideal S256x128 .f32) (z : Fin 1) (r : Fin 256) (l : Fin 128) :
    k0_pay1 v (ix3 z r l) = v (ix2 r l) * Ideal.ofBits .f32 0x3E000000#32 := by
  pointwise [k0_pay1]

/-- A chunk stored. -/
theorem k0_pay32_apply (v : FVec Ideal S256x128 .f32) (z : Fin 1) (r : Fin 256) (l : Fin 128) :
    k0_pay32 v (ix3 z r l) = v (ix2 r l) := by
  pointwise [k0_pay32]

theorem emb0 (z : Fin 1) (r : Fin 256) (l : Fin 128) : (r0_9).emb (ix3 z r l) = ix3 0 r ⟨0 + l.val, by omega⟩ := by
  funext d
  apply Fin.ext
  fin_cases d <;> simp [Rect.emb, Rect.unit]

theorem emb1 (z : Fin 1) (r : Fin 256) (l : Fin 128) : (r0_10).emb (ix3 z r l) = ix3 0 r ⟨128 + l.val, by omega⟩ := by
  funext d
  apply Fin.ext
  fin_cases d <;> simp [Rect.emb, Rect.unit]

theorem emb2 (z : Fin 1) (r : Fin 256) (l : Fin 128) : (r0_11).emb (ix3 z r l) = ix3 0 r ⟨256 + l.val, by omega⟩ := by
  funext d
  apply Fin.ext
  fin_cases d <;> simp [Rect.emb, Rect.unit]

theorem emb3 (z : Fin 1) (r : Fin 256) (l : Fin 128) : (r0_12).emb (ix3 z r l) = ix3 0 r ⟨384 + l.val, by omega⟩ := by
  funext d
  apply Fin.ext
  fin_cases d <;> simp [Rect.emb, Rect.unit]

/-- The piece stored from column 0 on, as one chunk of heads. -/
theorem qPiece0 (p : FVec Ideal S256x3328 .f32) (g : Vec Ideal S1x128 .f32) (x : S1x256x128.Idx) :
    k0_pay1 (k0_pay29 (extractStridedSlice S256x128 ![0, 0] p slices_S256x3328_o0_0_S256x128) g) x = qAt p g ((r0_9).emb x) := by
  obtain ⟨z, r, l, rfl⟩ : ∃ (z : Fin 1) (r : Fin 256) (l : Fin 128), x = ix3 z r l := ⟨x 0, x 1, x 2, eq_ix3 x⟩
  rw [show (r0_9).emb (ix3 z r l) = ix3 0 r ⟨0 + l.val, by omega⟩ from emb0 z r l, qAt_eq p g r ⟨2 * 0 + l.val / 64, by omega⟩ ⟨l.val % 64, by omega⟩ _ (by simp; omega),
    k0_pay1_apply, chunk_apply p g 0 _ 0 (Nat.zero_le _) 0 rfl r l]
  rfl

/-- The piece stored from column 0 on, as one chunk of heads. -/
theorem kPiece0 (p : FVec Ideal S256x3328 .f32) (g : Vec Ideal S1x128 .f32) (x : S1x256x128.Idx) :
    k0_pay32 (k0_pay29 (extractStridedSlice S256x128 ![0, 512] p slices_S256x3328_o0_512_S256x128) g) x = kAt p g ((r0_9).emb x) := by
  obtain ⟨z, r, l, rfl⟩ : ∃ (z : Fin 1) (r : Fin 256) (l : Fin 128), x = ix3 z r l := ⟨x 0, x 1, x 2, eq_ix3 x⟩
  rw [show (r0_9).emb (ix3 z r l) = ix3 0 r ⟨0 + l.val, by omega⟩ from emb0 z r l, kAt_eq p g r ⟨2 * 0 + l.val / 64, by omega⟩ ⟨l.val % 64, by omega⟩ _ (by simp; omega),
    k0_pay32_apply, chunk_apply p g 512 _ 512 le_rfl 0 rfl r l]
  rfl

/-- The piece stored from column 128 on, as one chunk of heads. -/
theorem qPiece1 (p : FVec Ideal S256x3328 .f32) (g : Vec Ideal S1x128 .f32) (x : S1x256x128.Idx) :
    k0_pay1 (k0_pay29 (extractStridedSlice S256x128 ![0, 128] p slices_S256x3328_o0_128_S256x128) g) x = qAt p g ((r0_10).emb x) := by
  obtain ⟨z, r, l, rfl⟩ : ∃ (z : Fin 1) (r : Fin 256) (l : Fin 128), x = ix3 z r l := ⟨x 0, x 1, x 2, eq_ix3 x⟩
  rw [show (r0_10).emb (ix3 z r l) = ix3 0 r ⟨128 + l.val, by omega⟩ from emb1 z r l, qAt_eq p g r ⟨2 * 1 + l.val / 64, by omega⟩ ⟨l.val % 64, by omega⟩ _ (by simp; omega),
    k0_pay1_apply, chunk_apply p g 128 _ 0 (Nat.zero_le _) 1 rfl r l]
  rfl

/-- The piece stored from column 128 on, as one chunk of heads. -/
theorem kPiece1 (p : FVec Ideal S256x3328 .f32) (g : Vec Ideal S1x128 .f32) (x : S1x256x128.Idx) :
    k0_pay32 (k0_pay29 (extractStridedSlice S256x128 ![0, 640] p slices_S256x3328_o0_640_S256x128) g) x = kAt p g ((r0_10).emb x) := by
  obtain ⟨z, r, l, rfl⟩ : ∃ (z : Fin 1) (r : Fin 256) (l : Fin 128), x = ix3 z r l := ⟨x 0, x 1, x 2, eq_ix3 x⟩
  rw [show (r0_10).emb (ix3 z r l) = ix3 0 r ⟨128 + l.val, by omega⟩ from emb1 z r l, kAt_eq p g r ⟨2 * 1 + l.val / 64, by omega⟩ ⟨l.val % 64, by omega⟩ _ (by simp; omega),
    k0_pay32_apply, chunk_apply p g 640 _ 512 le_rfl 1 rfl r l]
  rfl

/-- The piece stored from column 256 on, as one chunk of heads. -/
theorem qPiece2 (p : FVec Ideal S256x3328 .f32) (g : Vec Ideal S1x128 .f32) (x : S1x256x128.Idx) :
    k0_pay1 (k0_pay29 (extractStridedSlice S256x128 ![0, 256] p slices_S256x3328_o0_256_S256x128) g) x = qAt p g ((r0_11).emb x) := by
  obtain ⟨z, r, l, rfl⟩ : ∃ (z : Fin 1) (r : Fin 256) (l : Fin 128), x = ix3 z r l := ⟨x 0, x 1, x 2, eq_ix3 x⟩
  rw [show (r0_11).emb (ix3 z r l) = ix3 0 r ⟨256 + l.val, by omega⟩ from emb2 z r l, qAt_eq p g r ⟨2 * 2 + l.val / 64, by omega⟩ ⟨l.val % 64, by omega⟩ _ (by simp; omega),
    k0_pay1_apply, chunk_apply p g 256 _ 0 (Nat.zero_le _) 2 rfl r l]
  rfl

/-- The piece stored from column 256 on, as one chunk of heads. -/
theorem kPiece2 (p : FVec Ideal S256x3328 .f32) (g : Vec Ideal S1x128 .f32) (x : S1x256x128.Idx) :
    k0_pay32 (k0_pay29 (extractStridedSlice S256x128 ![0, 768] p slices_S256x3328_o0_768_S256x128) g) x = kAt p g ((r0_11).emb x) := by
  obtain ⟨z, r, l, rfl⟩ : ∃ (z : Fin 1) (r : Fin 256) (l : Fin 128), x = ix3 z r l := ⟨x 0, x 1, x 2, eq_ix3 x⟩
  rw [show (r0_11).emb (ix3 z r l) = ix3 0 r ⟨256 + l.val, by omega⟩ from emb2 z r l, kAt_eq p g r ⟨2 * 2 + l.val / 64, by omega⟩ ⟨l.val % 64, by omega⟩ _ (by simp; omega),
    k0_pay32_apply, chunk_apply p g 768 _ 512 le_rfl 2 rfl r l]
  rfl

/-- The piece stored from column 384 on, as one chunk of heads. -/
theorem qPiece3 (p : FVec Ideal S256x3328 .f32) (g : Vec Ideal S1x128 .f32) (x : S1x256x128.Idx) :
    k0_pay1 (k0_pay29 (extractStridedSlice S256x128 ![0, 384] p slices_S256x3328_o0_384_S256x128) g) x = qAt p g ((r0_12).emb x) := by
  obtain ⟨z, r, l, rfl⟩ : ∃ (z : Fin 1) (r : Fin 256) (l : Fin 128), x = ix3 z r l := ⟨x 0, x 1, x 2, eq_ix3 x⟩
  rw [show (r0_12).emb (ix3 z r l) = ix3 0 r ⟨384 + l.val, by omega⟩ from emb3 z r l, qAt_eq p g r ⟨2 * 3 + l.val / 64, by omega⟩ ⟨l.val % 64, by omega⟩ _ (by simp; omega),
    k0_pay1_apply, chunk_apply p g 384 _ 0 (Nat.zero_le _) 3 rfl r l]
  rfl

/-- The piece stored from column 384 on, as one chunk of heads. -/
theorem kPiece3 (p : FVec Ideal S256x3328 .f32) (g : Vec Ideal S1x128 .f32) (x : S1x256x128.Idx) :
    k0_pay32 (k0_pay29 (extractStridedSlice S256x128 ![0, 896] p slices_S256x3328_o0_896_S256x128) g) x = kAt p g ((r0_12).emb x) := by
  obtain ⟨z, r, l, rfl⟩ : ∃ (z : Fin 1) (r : Fin 256) (l : Fin 128), x = ix3 z r l := ⟨x 0, x 1, x 2, eq_ix3 x⟩
  rw [show (r0_12).emb (ix3 z r l) = ix3 0 r ⟨384 + l.val, by omega⟩ from emb3 z r l, kAt_eq p g r ⟨2 * 3 + l.val / 64, by omega⟩ ⟨l.val % 64, by omega⟩ _ (by simp; omega),
    k0_pay32_apply, chunk_apply p g 896 _ 512 le_rfl 3 rfl r l]
  rfl

/-- The four pieces of 128 columns fill the block. -/
theorem cover (r : Fin 256) (c : Fin 512) : ix3 (0 : Fin 1) r c ∈ r0_12.set ∨ ix3 (0 : Fin 1) r c ∈ r0_11.set
    ∨ ix3 (0 : Fin 1) r c ∈ r0_10.set ∨ ix3 (0 : Fin 1) r c ∈ r0_9.set := by
  have m : ∀ (R : Rect S1x256x512) (x : R.shape.Idx), R.emb x ∈ R.set := fun R x => R.idx_mem x
  rcases Nat.lt_or_ge c.val 128 with h | h
  · exact .inr (.inr (.inr ((show ix3 0 r c = r0_9.emb (ix3 0 r ⟨c.val - 0, by omega⟩) by
      rw [emb0]; congr 1; apply Fin.ext; simp) ▸ m r0_9 _)))
  rcases Nat.lt_or_ge c.val 256 with h' | h'
  · exact .inr (.inr (.inl ((show ix3 0 r c = r0_10.emb (ix3 0 r ⟨c.val - 128, by omega⟩) by
      rw [emb1]; congr 1; apply Fin.ext; simp; omega) ▸ m r0_10 _)))
  rcases Nat.lt_or_ge c.val 384 with h'' | h''
  · exact .inr (.inl ((show ix3 0 r c = r0_11.emb (ix3 0 r ⟨c.val - 256, by omega⟩) by
      rw [emb2]; congr 1; apply Fin.ext; simp; omega) ▸ m r0_11 _))
  · exact .inl ((show ix3 0 r c = r0_12.emb (ix3 0 r ⟨c.val - 384, by omega⟩) by
      rw [emb3]; congr 1; apply Fin.ext; simp; omega) ▸ m r0_12 _)

/-- The query block, column by column. -/
theorem out9_eq (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) (r : Fin 256) (c : Fin 512) :
    out0_9 x0 x1 x2 x3 x4 x5 x6 x7 (ix3 0 r c) = qAt (proj x0 x1 x2 x3 x4 x5 x6 x7) x6 (ix3 0 r c) := by
  have hg : View.ld x6 r0_8 = x6 := View.ld_unit_zero (by funext a; fin_cases a <;> rfl) _ _
  unfold out0_9 proj
  rw [hg]
  refine View.canon_apply_of_pieces (Val := Elt Ideal) (e := .bf16) (qAt (k0_pay53 x0 x1 x2 x3 x4 x5 x6 x7) x6) _ ?_ _ ?_
  · intro q hq x
    simp only [List.mem_cons, List.not_mem_nil, or_false] at hq
    rcases hq with rfl | rfl | rfl | rfl
    · exact qPiece3 (k0_pay53 x0 x1 x2 x3 x4 x5 x6 x7) x6 x
    · exact qPiece2 (k0_pay53 x0 x1 x2 x3 x4 x5 x6 x7) x6 x
    · exact qPiece1 (k0_pay53 x0 x1 x2 x3 x4 x5 x6 x7) x6 x
    · exact qPiece0 (k0_pay53 x0 x1 x2 x3 x4 x5 x6 x7) x6 x
  · simp only [List.mem_cons, List.not_mem_nil, or_false, exists_eq_or_imp, exists_eq_left]
    exact cover r c

/-- The key block, column by column. -/
theorem out10_eq (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) (r : Fin 256) (c : Fin 512) :
    out0_10 x0 x1 x2 x3 x4 x5 x6 x7 (ix3 0 r c) = kAt (proj x0 x1 x2 x3 x4 x5 x6 x7) x7 (ix3 0 r c) := by
  have hg : View.ld x7 r0_8 = x7 := View.ld_unit_zero (by funext a; fin_cases a <;> rfl) _ _
  unfold out0_10 proj
  rw [hg]
  refine View.canon_apply_of_pieces (Val := Elt Ideal) (e := .bf16) (kAt (k0_pay53 x0 x1 x2 x3 x4 x5 x6 x7) x7) _ ?_ _ ?_
  · intro q hq x
    simp only [List.mem_cons, List.not_mem_nil, or_false] at hq
    rcases hq with rfl | rfl | rfl | rfl
    · exact kPiece3 (k0_pay53 x0 x1 x2 x3 x4 x5 x6 x7) x7 x
    · exact kPiece2 (k0_pay53 x0 x1 x2 x3 x4 x5 x6 x7) x7 x
    · exact kPiece1 (k0_pay53 x0 x1 x2 x3 x4 x5 x6 x7) x7 x
    · exact kPiece0 (k0_pay53 x0 x1 x2 x3 x4 x5 x6 x7) x7 x
  · simp only [List.mem_cons, List.not_mem_nil, or_false, exists_eq_or_imp, exists_eq_left]
    exact cover r c

/-- The residual stream's row after the half-step, from the blocks. -/
def rowOut (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (r : Fin 256) : Fin 1024 → EReal :=
  halfStep (fun l => x0 (ix3 0 r l)) (fun l => x2 (ix2 0 l)) (fun l => x1 (ix4 0 0 0 l)) (fun l => x1 (ix4 0 0 1 l))
    (fun l => x1 (ix4 0 0 2 l)) (fun k j => x3 (ix4 0 0 k j)) (fun j k => x4 (ix4 0 0 j k))

/-- The value the body's residual payload takes. -/
theorem pay11_eq (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) (r : Fin 256) (k : Fin 1024) :
    k0_pay11 (k0_pay46 x0 x1 x2 x3 x4 x5 x6 x7) (k0_pay47 x0 x1 x2 x3 x4 x5 x6 x7) (k0_pay48 x0 x1 x2 x3 x4 x5 x6 x7)
      (k0_pay49 x0 x1 x2 x3 x4 x5 x6 x7) (k0_pay50 x0 x1 x2 x3 x4 x5 x6 x7) (Scalar.ofBits .f32 0x00000000#32) (View.ld x4 r0_5) (ix2 r k)
      = rowOut x0 x1 x2 x3 x4 r k := by
  have h29 : ∀ j, k0_pay49 x0 x1 x2 x3 x4 x5 x6 x7 (ix2 r j)
      = rowMul (modulated (fun l => x0 (ix3 0 r l)) (fun l => x2 (ix2 0 l)) (fun l => x1 (ix4 0 0 0 l)) (fun l => x1 (ix4 0 0 1 l)))
        (fun k j => x3 (ix4 0 0 k j)) ⟨j.val, by omega⟩ := fun j => by
    unfold k0_pay49
    rw [pay9_apply]
    pointwise [pay7_apply, rowMul]
  have h32 : ∀ j, k0_pay50 x0 x1 x2 x3 x4 x5 x6 x7 (ix2 r j)
      = rowMul (modulated (fun l => x0 (ix3 0 r l)) (fun l => x2 (ix2 0 l)) (fun l => x1 (ix4 0 0 0 l)) (fun l => x1 (ix4 0 0 1 l)))
        (fun k j => x3 (ix4 0 0 k j)) ⟨2816 + j.val, by omega⟩ := fun j => by
    unfold k0_pay50
    rw [pay10_apply]
    pointwise [pay7_apply, rowMul]
  unfold k0_pay48
  rw [pay11_apply]
  simp only [h29, h32]
  pointwise [k0_pay46, k0_pay47, k0_pay5, k0_pay6, rowOut, halfStep, gated, rowMul]

/-- The residual block. -/
theorem out8_eq (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) (r : Fin 256) (k : Fin 1024) :
    out0_8 x0 x1 x2 x3 x4 x5 x6 x7 (ix3 0 r k) = rowOut x0 x1 x2 x3 x4 r k := by
  unfold out0_8
  rw [View.canon_unit_zero (by funext a; fin_cases a <;> rfl), ← pay11_eq x0 x1 x2 x3 x4 x5 x6 x7]
  pointwise [k0_pay12]

/-- The projection's columns. -/
theorem proj_eq (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) (r : Fin 256) (j : Fin 3328) :
    proj x0 x1 x2 x3 x4 x5 x6 x7 (ix2 r j)
      = rowMul (modulated (rowOut x0 x1 x2 x3 x4 r) (fun l => x2 (ix2 1 l)) (fun l => x1 (ix4 0 0 3 l)) (fun l => x1 (ix4 0 0 4 l)))
        (fun k j => x5 (ix3 0 k j)) j := by
  unfold proj k0_pay53 k0_pay51 k0_pay52
  rw [pay14_apply]
  simp only [pay11_eq]
  pointwise [k0_pay46, k0_pay5, rowMul]

/-- The value block: the projection's columns from 1024 on. -/
theorem out11_eq (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) (r : Fin 256) (c : Fin 512) :
    out0_11 x0 x1 x2 x3 x4 x5 x6 x7 (ix3 0 r c) = proj x0 x1 x2 x3 x4 x5 x6 x7 (ix2 r ⟨1024 + c.val, by omega⟩) := by
  unfold out0_11 proj
  rw [View.canon_unit_zero (by funext a; fin_cases a <;> rfl)]
  pointwise [k0_pay3]

/-- The recurrent branch's columns: the projection's from 1536 on. -/
theorem out12_eq (x0 : Vec Ideal S1x256x1024 .f32) (x1 : Vec Ideal S1x1x9x1024 .f32) (x2 : Vec Ideal S3x1024 .f32)
    (x3 : Vec Ideal S1x1x1024x5632 .bf16) (x4 : Vec Ideal S1x1x2816x1024 .bf16) (x5 : Vec Ideal S1x1024x3328 .bf16)
    (x6 x7 : Vec Ideal S1x128 .f32) (r : Fin 256) (c : Fin 1792) :
    out0_12 x0 x1 x2 x3 x4 x5 x6 x7 (ix3 0 r c) = proj x0 x1 x2 x3 x4 x5 x6 x7 (ix2 r ⟨1536 + c.val, by omega⟩) := by
  unfold out0_12 proj
  rw [View.canon_unit_zero (by funext a; fin_cases a <;> rfl)]
  pointwise [k0_pay4]

end Cert.Front

end
-- ==== Proof.Front.Arrays.lean ====
/- The front's result arrays after its run, as the layer's functions of its arguments. -/
module

public import proofs.«01_k».proof.Proof.Front.Body
public import Idealize.ShloMosaic.Lib.Pipeline.ValueKit

@[expose] public section

set_option maxRecDepth 16384

noncomputable section

namespace Cert.Front

open Idealize.ShloMosaic Idealize.ShloMosaic.TcCoe Idealize.SL.Sem Cert.FrontIdeal Cert.FrontIdeal.Gen Cert.Layer

variable (m : (ℓ : Loc nD τ sig) → Buf (Elt Ideal) ℓ)

/-- The batch entry of a grid point. -/
def bOf (t : Fin cfg0.N) : Fin 4 := ⟨t.val / 17, by have := t.isLt; have : cfg0.N = 68 := N_0; omega⟩

/-- The row of the joined stream that is a block's row at a grid point. -/
def nOf (t : Fin cfg0.N) (r : Fin 256) : Fin 4352 := ⟨t.val % 17 * 256 + r.val, by omega⟩

theorem blk0 (c : Dev nD) (t : Fin cfg0.N) (r : Fin 256) (k : Fin 1024) :
    iblk m c 0 t (ix3 0 r k) = V m c main_v4 (ix3 (bOf t) (nOf t r) k) := by
  have hi : ∀ t : Fin cfg0.N, win0_0.index t = ![t.val / 17, t.val % 17, 0] := by decide +kernel
  unfold iblk
  blk_simp
  refine congrArg (V m c main_v4) (funext fun a => Fin.ext ?_)
  fin_cases a <;> blk_simp <;> simp [hi t, bOf, nOf]

theorem blk1 (c : Dev nD) (t : Fin cfg0.N) (s : Fin 9) (k : Fin 1024) :
    iblk m c 1 t (ix4 0 0 s k) = V m c main_v3 (ix4 (bOf t) ⟨min (t.val % 17) 1, by omega⟩ s k) := by
  have hi : ∀ t : Fin cfg0.N, win0_1.index t = ![t.val / 17, min (t.val % 17) 1, 0, 0] := by decide +kernel
  unfold iblk
  blk_simp
  refine congrArg (V m c main_v3) (funext fun a => Fin.ext ?_)
  fin_cases a <;> blk_simp <;> simp [hi t, bOf, nOf]

theorem blk2 (c : Dev nD) (t : Fin cfg0.N) (s : Fin 3) (k : Fin 1024) :
    iblk m c 2 t (ix2 s k) = V m c main_arg4 (ix2 s k) := by
  have hi : ∀ t : Fin cfg0.N, win0_2.index t = ![0, 0] := by decide +kernel
  unfold iblk
  blk_simp
  refine congrArg (V m c main_arg4) (funext fun a => Fin.ext ?_)
  fin_cases a <;> blk_simp <;> simp [hi t, bOf, nOf]

theorem blk3 (c : Dev nD) (t : Fin cfg0.N) (k : Fin 1024) (j : Fin 5632) :
    iblk m c 3 t (ix4 0 0 k j) = V m c main_v5 (ix4 0 0 k j) := by
  have hi : ∀ t : Fin cfg0.N, win0_3.index t = ![0, 0, 0, 0] := by decide +kernel
  unfold iblk
  blk_simp
  refine congrArg (V m c main_v5) (funext fun a => Fin.ext ?_)
  fin_cases a <;> blk_simp <;> simp [hi t, bOf, nOf]

theorem blk4 (c : Dev nD) (t : Fin cfg0.N) (j : Fin 2816) (k : Fin 1024) :
    iblk m c 4 t (ix4 0 0 j k) = V m c main_v6 (ix4 0 0 j k) := by
  have hi : ∀ t : Fin cfg0.N, win0_4.index t = ![0, 0, 0, 0] := by decide +kernel
  unfold iblk
  blk_simp
  refine congrArg (V m c main_v6) (funext fun a => Fin.ext ?_)
  fin_cases a <;> blk_simp <;> simp [hi t, bOf, nOf]

theorem blk5 (c : Dev nD) (t : Fin cfg0.N) (k : Fin 1024) (j : Fin 3328) :
    iblk m c 5 t (ix3 0 k j) = V m c main_v7 (ix3 0 k j) := by
  have hi : ∀ t : Fin cfg0.N, win0_5.index t = ![0, 0, 0] := by decide +kernel
  unfold iblk
  blk_simp
  refine congrArg (V m c main_v7) (funext fun a => Fin.ext ?_)
  fin_cases a <;> blk_simp <;> simp [hi t, bOf, nOf]

theorem blk6 (c : Dev nD) (t : Fin cfg0.N) (l : Fin 128) :
    iblk m c 6 t (ix2 0 l) = V m c main_v11 (ix2 0 l) := by
  have hi : ∀ t : Fin cfg0.N, win0_6.index t = ![0, 0] := by decide +kernel
  unfold iblk
  blk_simp
  refine congrArg (V m c main_v11) (funext fun a => Fin.ext ?_)
  fin_cases a <;> blk_simp <;> simp [hi t, bOf, nOf]

theorem blk7 (c : Dev nD) (t : Fin cfg0.N) (l : Fin 128) :
    iblk m c 7 t (ix2 0 l) = V m c main_v15 (ix2 0 l) := by
  have hi : ∀ t : Fin cfg0.N, win0_7.index t = ![0, 0] := by decide +kernel
  unfold iblk
  blk_simp
  refine congrArg (V m c main_v15) (funext fun a => Fin.ext ?_)
  fin_cases a <;> blk_simp <;> simp [hi t, bOf, nOf]

variable (c : Dev nD)

/-- The arguments as the run finds them. -/
abbrev argX := m ((c : Thread nD τ).loc main_arg0)
abbrev argCtx := m ((c : Thread nD τ).loc main_arg1)
abbrev argMx := m ((c : Thread nD τ).loc main_arg2)
abbrev argMs := m ((c : Thread nD τ).loc main_arg3)
abbrev argGain := m ((c : Thread nD τ).loc main_arg4)
abbrev argUp := m ((c : Thread nD τ).loc main_arg5)
abbrev argDown := m ((c : Thread nD τ).loc main_arg6)
abbrev argW := m ((c : Thread nD τ).loc main_arg7)
abbrev argQg := m ((c : Thread nD τ).loc main_arg8)
abbrev argKg := m ((c : Thread nD τ).loc main_arg9)

theorem host4 (b : Fin 4) (n : Fin 4352) (k : Fin 1024) : V m c main_v4 (ix3 b n k) = joined (argX m c) (argCtx m c) b n k := by
  show StableHlo.after hostOps0 _ _ _ = _
  after_results
  pointwise [joined]

theorem host3 (b : Fin 4) (n : Fin 4352) (z : Fin 2) (hz : z.val = if n.val < 256 then 0 else 1) (s : Fin 9) (k : Fin 1024) :
    V m c main_v3 (ix4 b z s k) = modAt (argMx m c) (argMs m c) b n s k := by
  show StableHlo.after hostOps0 _ _ _ = _
  after_results
  pointwise [modAt]
  by_cases h : n.val < 256
  · rw [if_pos h] at hz; rw [dif_pos (by omega), if_pos h]
  · rw [if_neg h] at hz; rw [dif_neg (by omega), if_neg h]

theorem host5 (i) : V m c main_v5 i = argUp m c i := by
  show StableHlo.after hostOps0 _ _ _ = _
  after_results
  rfl

theorem host6 (i) : V m c main_v6 i = argDown m c i := by
  show StableHlo.after hostOps0 _ _ _ = _
  after_results
  rfl

theorem host7 (i) : V m c main_v7 i = argW m c i := by
  show StableHlo.after hostOps0 _ _ _ = _
  after_results
  rfl

theorem host11 (l : Fin 128) : V m c main_v11 (ix2 0 l) = argQg m c (ix1 ⟨l.val % 64, by omega⟩) := by
  show StableHlo.after hostOps0 _ _ _ = _
  after_results
  pointwise

theorem host15 (l : Fin 128) : V m c main_v15 (ix2 0 l) = argKg m c (ix1 ⟨l.val % 64, by omega⟩) := by
  show StableHlo.after hostOps0 _ _ _ = _
  after_results
  pointwise

theorem mod_blk (t : Fin cfg0.N) (r : Fin 256) (s : Fin 9) :
    (fun l => iblk m c 1 t (ix4 0 0 s l)) = modAt (argMx m c) (argMs m c) (bOf t) (nOf t r) s := by
  funext k
  rw [blk1, host3]
  show min (t.val % 17) 1 = if t.val % 17 * 256 + r.val < 256 then 0 else 1
  split <;> omega

theorem gain_blk (t : Fin cfg0.N) (s : Fin 3) : (fun l => iblk m c 2 t (ix2 s l)) = fun l => argGain m c (ix2 s l) := by
  funext k
  rw [blk2, V_main_arg4]

/-- The body's residual rows are the front's. -/
theorem rowOut_eq (t : Fin cfg0.N) (r : Fin 256) :
    rowOut (iblk m c 0 t) (iblk m c 1 t) (iblk m c 2 t) (iblk m c 3 t) (iblk m c 4 t) r
      = frontRow (argX m c) (argCtx m c) (argMx m c) (argMs m c) (argGain m c) (argUp m c) (argDown m c) (bOf t) (nOf t r) := by
  unfold rowOut frontRow
  rw [mod_blk m c t r, mod_blk m c t r, mod_blk m c t r, gain_blk]
  have e0 : (fun l => iblk m c 0 t (ix3 0 r l)) = joined (argX m c) (argCtx m c) (bOf t) (nOf t r) :=
    funext fun k => (blk0 m c t r k).trans (host4 m c _ _ k)
  have e3 : (fun k j => iblk m c 3 t (ix4 0 0 k j)) = fun k j => argUp m c (ix4 0 0 k j) :=
    funext fun k => funext fun j => (blk3 m c t k j).trans (host5 m c _)
  have e4 : (fun j k => iblk m c 4 t (ix4 0 0 j k)) = fun j k => argDown m c (ix4 0 0 j k) :=
    funext fun j => funext fun k => (blk4 m c t j k).trans (host6 m c _)
  exact congr (congr (congrArg (fun x => halfStep x _ _ _ _) e0) e3) e4

/-- The body's projected rows are the front's. -/
theorem projOut_eq (t : Fin cfg0.N) (r : Fin 256) (j : Fin 3328) :
    proj (iblk m c 0 t) (iblk m c 1 t) (iblk m c 2 t) (iblk m c 3 t) (iblk m c 4 t) (iblk m c 5 t) (iblk m c 6 t) (iblk m c 7 t) (ix2 r j) = projRow (argX m c) (argCtx m c) (argMx m c) (argMs m c) (argGain m c) (argUp m c) (argDown m c) (argW m c) (bOf t) (nOf t r) j := by
  rw [proj_eq]
  unfold projRow
  rw [rowOut_eq, mod_blk m c t r, mod_blk m c t r, gain_blk]
  have e5 : (fun k j => iblk m c 5 t (ix3 0 k j)) = fun k j => argW m c (ix3 0 k j) :=
    funext fun k => funext fun j => (blk5 m c t k j).trans (host7 m c _)
  exact congrFun (congrArg (rowMul _) e5) j

/-- The residual stream after the front. -/
def res8 (i : S4x4352x1024.Idx) : EReal :=
  frontRow (argX m c) (argCtx m c) (argMx m c) (argMs m c) (argGain m c) (argUp m c) (argDown m c) (i 0) (i 1) (i 2)

theorem arr8 : (dats m 0 c).arrAt 8 cfg0.N = res8 m c := by
  have hi : ∀ t : Fin cfg0.N, win0_8.index t = ![t.val / 17, t.val % 17, 0] := by decide +kernel
  refine (dats m 0 c).arrAt_eq_of_covers 8 _ (by decide +kernel) fun t hf y => ?_
  blk_simp
  rw [after0_8]
  obtain ⟨z, r, k, rfl⟩ : ∃ (z : Fin 1) (r : Fin 256) (k : Fin 1024), y = ix3 z r k := ⟨y 0, y 1, y 2, eq_ix3 y⟩
  obtain rfl : z = 0 := Subsingleton.elim _ _
  have he : (win0_8.blk t).view.emb (ix3 0 r k) = ix3 (bOf t) (nOf t r) k := by
    funext a; apply Fin.ext
    fin_cases a <;> blk_simp <;> simp [hi t, bOf, nOf]
  rw [he]
  unfold res8
  refine (out8_eq (iblk m c 0 t) (iblk m c 1 t) (iblk m c 2 t) (iblk m c 3 t) (iblk m c 4 t) (iblk m c 5 t) (iblk m c 6 t) (iblk m c 7 t) r k).trans ?_
  rw [rowOut_eq]
  rfl

/-- The queries. -/
def res9 (i : S4x4352x512.Idx) : EReal :=
  headCol (argX m c) (argCtx m c) (argMx m c) (argMs m c) (argGain m c) (argUp m c) (argDown m c) (argW m c) 0 (Nat.zero_le _) (argQg m c) (i 0) (i 1) (i 2) * Ideal.ofBits .f32 0x3E000000#32

theorem arr9 : (dats m 0 c).arrAt 9 cfg0.N = res9 m c := by
  have hi : ∀ t : Fin cfg0.N, win0_9.index t = ![t.val / 17, t.val % 17, 0] := by decide +kernel
  refine (dats m 0 c).arrAt_eq_of_covers 9 _ (by decide +kernel) fun t hf y => ?_
  blk_simp
  rw [after0_9]
  obtain ⟨z, r, k, rfl⟩ : ∃ (z : Fin 1) (r : Fin 256) (k : Fin 512), y = ix3 z r k := ⟨y 0, y 1, y 2, eq_ix3 y⟩
  obtain rfl : z = 0 := Subsingleton.elim _ _
  have he : (win0_9.blk t).view.emb (ix3 0 r k) = ix3 (bOf t) (nOf t r) k := by
    funext a; apply Fin.ext
    fin_cases a <;> blk_simp <;> simp [hi t, bOf, nOf]
  rw [he]
  refine (out9_eq (iblk m c 0 t) (iblk m c 1 t) (iblk m c 2 t) (iblk m c 3 t) (iblk m c 4 t) (iblk m c 5 t) (iblk m c 6 t) (iblk m c 7 t) r k).trans ?_
  unfold res9 qAt heads headCol
  simp only [ix3_0, ix3_1, ix3_2, projOut_eq, blk6]
  refine congrArg (· * _) (headNorm_congr (fun i => rfl) (fun i => (host11 m c _).trans (congrArg (fun l => argQg m c (ix1 l)) (Fin.ext ?_))) _)
  show (64 * (k.val / 64 % 2) + i.val) % 64 = i.val
  omega

/-- The keys. -/
def res10 (i : S4x4352x512.Idx) : EReal :=
  headCol (argX m c) (argCtx m c) (argMx m c) (argMs m c) (argGain m c) (argUp m c) (argDown m c) (argW m c) 512 le_rfl (argKg m c) (i 0) (i 1) (i 2)

theorem arr10 : (dats m 0 c).arrAt 10 cfg0.N = res10 m c := by
  have hi : ∀ t : Fin cfg0.N, win0_10.index t = ![t.val / 17, t.val % 17, 0] := by decide +kernel
  refine (dats m 0 c).arrAt_eq_of_covers 10 _ (by decide +kernel) fun t hf y => ?_
  blk_simp
  rw [after0_10]
  obtain ⟨z, r, k, rfl⟩ : ∃ (z : Fin 1) (r : Fin 256) (k : Fin 512), y = ix3 z r k := ⟨y 0, y 1, y 2, eq_ix3 y⟩
  obtain rfl : z = 0 := Subsingleton.elim _ _
  have he : (win0_10.blk t).view.emb (ix3 0 r k) = ix3 (bOf t) (nOf t r) k := by
    funext a; apply Fin.ext
    fin_cases a <;> blk_simp <;> simp [hi t, bOf, nOf]
  rw [he]
  refine (out10_eq (iblk m c 0 t) (iblk m c 1 t) (iblk m c 2 t) (iblk m c 3 t) (iblk m c 4 t) (iblk m c 5 t) (iblk m c 6 t) (iblk m c 7 t) r k).trans ?_
  unfold res10 kAt heads headCol
  simp only [ix3_0, ix3_1, ix3_2, projOut_eq, blk7]
  refine headNorm_congr (fun i => rfl) (fun i => (host15 m c _).trans (congrArg (fun l => argKg m c (ix1 l)) (Fin.ext ?_))) _
  show (64 * (k.val / 64 % 2) + i.val) % 64 = i.val
  omega

/-- The values. -/
def res11 (i : S4x4352x512.Idx) : EReal :=
  projRow (argX m c) (argCtx m c) (argMx m c) (argMs m c) (argGain m c) (argUp m c) (argDown m c) (argW m c) (i 0) (i 1) ⟨1024 + (i 2).val, by have : (i 2).val < 512 := (i 2).isLt; omega⟩

theorem arr11 : (dats m 0 c).arrAt 11 cfg0.N = res11 m c := by
  have hi : ∀ t : Fin cfg0.N, win0_11.index t = ![t.val / 17, t.val % 17, 0] := by decide +kernel
  refine (dats m 0 c).arrAt_eq_of_covers 11 _ (by decide +kernel) fun t hf y => ?_
  blk_simp
  rw [after0_11]
  obtain ⟨z, r, k, rfl⟩ : ∃ (z : Fin 1) (r : Fin 256) (k : Fin 512), y = ix3 z r k := ⟨y 0, y 1, y 2, eq_ix3 y⟩
  obtain rfl : z = 0 := Subsingleton.elim _ _
  have he : (win0_11.blk t).view.emb (ix3 0 r k) = ix3 (bOf t) (nOf t r) k := by
    funext a; apply Fin.ext
    fin_cases a <;> blk_simp <;> simp [hi t, bOf, nOf]
  rw [he]
  exact (out11_eq (iblk m c 0 t) (iblk m c 1 t) (iblk m c 2 t) (iblk m c 3 t) (iblk m c 4 t) (iblk m c 5 t) (iblk m c 6 t) (iblk m c 7 t) r k).trans (projOut_eq m c t r _)

/-- The recurrent branch's projections. -/
def res12 (i : S4x4352x1792.Idx) : EReal :=
  projRow (argX m c) (argCtx m c) (argMx m c) (argMs m c) (argGain m c) (argUp m c) (argDown m c) (argW m c) (i 0) (i 1) ⟨1536 + (i 2).val, by have : (i 2).val < 1792 := (i 2).isLt; omega⟩

theorem arr12 : (dats m 0 c).arrAt 12 cfg0.N = res12 m c := by
  have hi : ∀ t : Fin cfg0.N, win0_12.index t = ![t.val / 17, t.val % 17, 0] := by decide +kernel
  refine (dats m 0 c).arrAt_eq_of_covers 12 _ (by decide +kernel) fun t hf y => ?_
  blk_simp
  rw [after0_12]
  obtain ⟨z, r, k, rfl⟩ : ∃ (z : Fin 1) (r : Fin 256) (k : Fin 1792), y = ix3 z r k := ⟨y 0, y 1, y 2, eq_ix3 y⟩
  obtain rfl : z = 0 := Subsingleton.elim _ _
  have he : (win0_12.blk t).view.emb (ix3 0 r k) = ix3 (bOf t) (nOf t r) k := by
    funext a; apply Fin.ext
    fin_cases a <;> blk_simp <;> simp [hi t, bOf, nOf]
  rw [he]
  exact (out12_eq (iblk m c 0 t) (iblk m c 1 t) (iblk m c 2 t) (iblk m c 3 t) (iblk m c 4 t) (iblk m c 5 t) (iblk m c 6 t) (iblk m c 7 t) r k).trans (projOut_eq m c t r _)

end Cert.Front

end
-- ==== Proof.Front.Ref.lean ====
/- The front's reference read down to the layer's functions of its arguments. -/
module

public import proofs.«01_k».proof.Proof.Layer
public import proofs.«01_k».proof.Proof.Gen.FrontRefIdeal.Run
public import Idealize.ShloMosaic.Lib.Pointwise
public import Idealize.ShloMosaic.Lib.Tactic.CleanTypes

@[expose] public section

set_option maxRecDepth 16384

noncomputable section

namespace Cert.FrontRef

open Idealize.ShloMosaic Idealize.ShloMosaic.TcCoe Idealize.SL.Sem Cert.FrontRefIdeal Cert.FrontRefIdeal.Gen
  Cert.FrontRefIdeal.Value Cert.Layer

variable (V0 : Valuation τ sig (Elt Ideal))

/-- The arguments as the reference finds them. -/
abbrev aX : S4x4096x1024.Idx → EReal := V0 (Proc.devRef .tc main_arg0)
abbrev aCtx : S4x256x1024.Idx → EReal := V0 (Proc.devRef .tc main_arg1)
abbrev aMx : S4x9x1024.Idx → EReal := V0 (Proc.devRef .tc main_arg2)
abbrev aMs : S1x9x1024.Idx → EReal := V0 (Proc.devRef .tc main_arg3)
abbrev aGain : S3x1024.Idx → EReal := V0 (Proc.devRef .tc main_arg4)
abbrev aUp : S4x2x1024x5632.Idx → EReal := V0 (Proc.devRef .tc main_arg5)
abbrev aDown : S4x2x2816x1024.Idx → EReal := V0 (Proc.devRef .tc main_arg6)
abbrev aW : S4x1024x3328.Idx → EReal := V0 (Proc.devRef .tc main_arg7)
abbrev aQg : S64.Idx → EReal := V0 (Proc.devRef .tc main_arg8)
abbrev aKg : S64.Idx → EReal := V0 (Proc.devRef .tc main_arg9)

section

variable (b : Fin 4) (n : Fin 4096)

/-- A row of the latent stream after the first half-step. -/
def halfX : Fin 1024 → EReal :=
  halfStep (fun l => aX V0 (ix3 b n l)) (fun l => aGain V0 (ix2 0 l)) (fun l => aMx V0 (ix3 b 0 l)) (fun l => aMx V0 (ix3 b 1 l)) (fun l => aMx V0 (ix3 b 2 l)) (fun k j => aUp V0 (ix4 0 0 k j)) (fun j k => aDown V0 (ix4 0 0 j k))

/-- A row of the latent stream's projection. -/
def projX : Fin 3328 → EReal :=
  rowMul (modulated (halfX V0 b n) (fun l => aGain V0 (ix2 1 l)) (fun l => aMx V0 (ix3 b 3 l)) (fun l => aMx V0 (ix3 b 4 l))) (fun k j => aW V0 (ix3 0 k j))

theorem upX_eq (j : Fin 5632) :
    res_main_v32 V0 (ix3 b n j)
      = rowMul (modulated (fun l => aX V0 (ix3 b n l)) (fun l => aGain V0 (ix2 0 l)) (fun l => aMx V0 (ix3 b 0 l)) (fun l => aMx V0 (ix3 b 1 l))) (fun k j => aUp V0 (ix4 0 0 k j)) j := by
  unfold res_main_v32
  clean_types
  pointwise [rowMul, modulated]

theorem gateX_eq (j : Fin 2816) : res_main_v33 V0 (ix3 b n j) = res_main_v32 V0 (ix3 b n ⟨j.val, by omega⟩) := by
  unfold res_main_v33
  clean_types
  pointwise

theorem halfX_eq (k : Fin 1024) : res_main_v40 V0 (ix3 b n k) = halfX V0 b n k := by
  unfold res_main_v40 halfX halfStep
  clean_types
  pointwise [gateX_eq, upX_eq, rowMul, gated]

theorem projX_eq (j : Fin 3328) : res_main_v64 V0 (ix3 b n j) = projX V0 b n j := by
  unfold res_main_v64 projX
  clean_types
  pointwise [halfX_eq, rowMul, modulated]

theorem qkvX_eq (j : Fin 1536) : res_main_v65 V0 (ix3 b n j) = projX V0 b n ⟨j.val, by omega⟩ := by
  unfold res_main_v65
  clean_types
  pointwise [projX_eq]

theorem qX_eq (h : Fin 8) (e : Fin 64) :
    res_main_v69 V0 (ix4 b n h e) = projX V0 b n ⟨64 * h.val + e.val, by omega⟩ := by
  unfold res_main_v69
  clean_types
  pointwise [qkvX_eq]
  exact congrArg _ (Fin.ext (by show h.val * 64 + e.val = 64 * h.val + e.val; omega))

theorem kX_eq (h : Fin 8) (e : Fin 64) :
    res_main_v86 V0 (ix4 b n h e) = projX V0 b n ⟨512 + 64 * h.val + e.val, by omega⟩ := by
  unfold res_main_v86
  clean_types
  pointwise [qkvX_eq]
  exact congrArg _ (Fin.ext (by show 512 + (h.val * 64 + e.val) = 512 + 64 * h.val + e.val; omega))

end

section

variable (b : Fin 4) (n : Fin 256)

/-- A row of the context after the first half-step. -/
def halfC : Fin 1024 → EReal :=
  halfStep (fun l => aCtx V0 (ix3 b n l)) (fun l => aGain V0 (ix2 0 l)) (fun l => aMs V0 (ix3 0 0 l)) (fun l => aMs V0 (ix3 0 1 l)) (fun l => aMs V0 (ix3 0 2 l)) (fun k j => aUp V0 (ix4 0 0 k j)) (fun j k => aDown V0 (ix4 0 0 j k))

/-- A row of the context's projection. -/
def projC : Fin 3328 → EReal :=
  rowMul (modulated (halfC V0 b n) (fun l => aGain V0 (ix2 1 l)) (fun l => aMs V0 (ix3 0 3 l)) (fun l => aMs V0 (ix3 0 4 l))) (fun k j => aW V0 (ix3 0 k j))

theorem upC_eq (j : Fin 5632) :
    res_main_v134 V0 (ix3 b n j)
      = rowMul (modulated (fun l => aCtx V0 (ix3 b n l)) (fun l => aGain V0 (ix2 0 l)) (fun l => aMs V0 (ix3 0 0 l)) (fun l => aMs V0 (ix3 0 1 l))) (fun k j => aUp V0 (ix4 0 0 k j)) j := by
  unfold res_main_v134
  clean_types
  pointwise [rowMul, modulated]

theorem gateC_eq (j : Fin 2816) : res_main_v135 V0 (ix3 b n j) = res_main_v134 V0 (ix3 b n ⟨j.val, by omega⟩) := by
  unfold res_main_v135
  clean_types
  pointwise

theorem halfC_eq (k : Fin 1024) : res_main_v142 V0 (ix3 b n k) = halfC V0 b n k := by
  unfold res_main_v142 halfC halfStep
  clean_types
  pointwise [gateC_eq, upC_eq, rowMul, gated]

theorem projC_eq (j : Fin 3328) : res_main_v166 V0 (ix3 b n j) = projC V0 b n j := by
  unfold res_main_v166 projC
  clean_types
  pointwise [halfC_eq, rowMul, modulated]

theorem qkvC_eq (j : Fin 1536) : res_main_v167 V0 (ix3 b n j) = projC V0 b n ⟨j.val, by omega⟩ := by
  unfold res_main_v167
  clean_types
  pointwise [projC_eq]

theorem qC_eq (h : Fin 8) (e : Fin 64) :
    res_main_v171 V0 (ix4 b n h e) = projC V0 b n ⟨64 * h.val + e.val, by omega⟩ := by
  unfold res_main_v171
  clean_types
  pointwise [qkvC_eq]
  exact congrArg _ (Fin.ext (by show h.val * 64 + e.val = 64 * h.val + e.val; omega))

theorem kC_eq (h : Fin 8) (e : Fin 64) :
    res_main_v188 V0 (ix4 b n h e) = projC V0 b n ⟨512 + 64 * h.val + e.val, by omega⟩ := by
  unfold res_main_v188
  clean_types
  pointwise [qkvC_eq]
  exact congrArg _ (Fin.ext (by show 512 + (h.val * 64 + e.val) = 512 + 64 * h.val + e.val; omega))

end

/-- The front's functions at a row of the context. -/
theorem front_lo (b : Fin 4) (n : Fin 4352) (h : n.val < 256) :
    frontRow (aX V0) (aCtx V0) (aMx V0) (aMs V0) (aGain V0) (aUp V0) (aDown V0) b n = halfC V0 b ⟨n.val, h⟩ := by
  unfold frontRow halfC
  rw [joined_lo _ _ _ _ h, modAt_lo _ _ _ _ _ h, modAt_lo _ _ _ _ _ h, modAt_lo _ _ _ _ _ h]

theorem front_hi (b : Fin 4) (n : Fin 4352) (h : ¬ n.val < 256) :
    frontRow (aX V0) (aCtx V0) (aMx V0) (aMs V0) (aGain V0) (aUp V0) (aDown V0) b n = halfX V0 b ⟨n.val - 256, by omega⟩ := by
  unfold frontRow halfX
  rw [joined_hi _ _ _ _ h, modAt_hi _ _ _ _ _ h, modAt_hi _ _ _ _ _ h, modAt_hi _ _ _ _ _ h]

theorem proj_lo (b : Fin 4) (n : Fin 4352) (h : n.val < 256) :
    projRow (aX V0) (aCtx V0) (aMx V0) (aMs V0) (aGain V0) (aUp V0) (aDown V0) (aW V0) b n = projC V0 b ⟨n.val, h⟩ := by
  unfold projRow projC
  rw [front_lo V0 b n h, modAt_lo _ _ _ _ _ h, modAt_lo _ _ _ _ _ h]

theorem proj_hi (b : Fin 4) (n : Fin 4352) (h : ¬ n.val < 256) :
    projRow (aX V0) (aCtx V0) (aMx V0) (aMs V0) (aGain V0) (aUp V0) (aDown V0) (aW V0) b n = projX V0 b ⟨n.val - 256, by omega⟩ := by
  unfold projRow projX
  rw [front_hi V0 b n h, modAt_hi _ _ _ _ _ h, modAt_hi _ _ _ _ _ h]

variable (m : (ℓ : Loc nD τ sig) → Buf (Elt Ideal) ℓ) (ρ : Dev nD → PrngReg)

/-- The reference's five results are the front's functions of its arguments, which it leaves as they were. -/
theorem run_front : θ_run defs (onTc (τ := τ) (main (F := Ideal))) ⟨m, fun _ => 0, ρ⟩ fun r => ∀ c : Dev nD,
      r.2.mem ((c.tc : Thread nD τ).loc main_v204) = (fun i : S4x4352x1024.Idx => frontRow (aX (StableHlo.launchContents m c)) (aCtx (StableHlo.launchContents m c)) (aMx (StableHlo.launchContents m c)) (aMs (StableHlo.launchContents m c)) (aGain (StableHlo.launchContents m c)) (aUp (StableHlo.launchContents m c)) (aDown (StableHlo.launchContents m c)) (i 0) (i 1) (i 2))
      ∧ r.2.mem ((c.tc : Thread nD τ).loc main_v209) = (fun i : S4x4352x512.Idx => headCol (aX (StableHlo.launchContents m c)) (aCtx (StableHlo.launchContents m c)) (aMx (StableHlo.launchContents m c)) (aMs (StableHlo.launchContents m c)) (aGain (StableHlo.launchContents m c)) (aUp (StableHlo.launchContents m c)) (aDown (StableHlo.launchContents m c)) (aW (StableHlo.launchContents m c)) 0 (Nat.zero_le _) (aQg (StableHlo.launchContents m c)) (i 0) (i 1) (i 2) * Ideal.ofBits .f32 0x3E000000#32)
      ∧ r.2.mem ((c.tc : Thread nD τ).loc main_v210) = (fun i : S4x4352x512.Idx => headCol (aX (StableHlo.launchContents m c)) (aCtx (StableHlo.launchContents m c)) (aMx (StableHlo.launchContents m c)) (aMs (StableHlo.launchContents m c)) (aGain (StableHlo.launchContents m c)) (aUp (StableHlo.launchContents m c)) (aDown (StableHlo.launchContents m c)) (aW (StableHlo.launchContents m c)) 512 le_rfl (aKg (StableHlo.launchContents m c)) (i 0) (i 1) (i 2))
      ∧ r.2.mem ((c.tc : Thread nD τ).loc main_v211) = (fun i : S4x4352x512.Idx => projRow (aX (StableHlo.launchContents m c)) (aCtx (StableHlo.launchContents m c)) (aMx (StableHlo.launchContents m c)) (aMs (StableHlo.launchContents m c)) (aGain (StableHlo.launchContents m c)) (aUp (StableHlo.launchContents m c)) (aDown (StableHlo.launchContents m c)) (aW (StableHlo.launchContents m c)) (i 0) (i 1) ⟨1024 + (i 2).val, by have : (i 2).val < 512 := (i 2).isLt; omega⟩)
      ∧ r.2.mem ((c.tc : Thread nD τ).loc main_v208) = (fun i : S4x4352x1792.Idx => projRow (aX (StableHlo.launchContents m c)) (aCtx (StableHlo.launchContents m c)) (aMx (StableHlo.launchContents m c)) (aMs (StableHlo.launchContents m c)) (aGain (StableHlo.launchContents m c)) (aUp (StableHlo.launchContents m c)) (aDown (StableHlo.launchContents m c)) (aW (StableHlo.launchContents m c)) (i 0) (i 1) ⟨1536 + (i 2).val, by have : (i 2).val < 1792 := (i 2).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨(h c).1.trans ?_, (h c).2.1.trans ?_, (h c).2.2.1.trans ?_,
    (h c).2.2.2.1.trans ?_, (h c).2.2.2.2.1.trans ?_, (h c).2.2.2.2.2⟩) (Cert.FrontRefIdeal.Value.run m ρ)
  · clear h
    funext i
    obtain ⟨b, n, k, rfl⟩ : ∃ (b : Fin 4) (n : Fin 4352) (k : Fin 1024), i = ix3 b n k := ⟨i 0, i 1, i 2, eq_ix3 i⟩
    clean_types
    by_cases hn : n.val < 256
    · pointwise [halfX_eq, halfC_eq, front_lo _ b n hn, hn]
    · pointwise [halfX_eq, halfC_eq, front_hi _ b n hn, hn]
  · clear h
    funext i
    obtain ⟨b, n, k, rfl⟩ : ∃ (b : Fin 4) (n : Fin 4352) (k : Fin 512), i = ix3 b n k := ⟨i 0, i 1, i 2, eq_ix3 i⟩
    clean_types
    by_cases hn : n.val < 256
    · pointwise [qX_eq, qC_eq, headCol, headNorm, proj_lo _ b n hn, hn]
    · pointwise [qX_eq, qC_eq, headCol, headNorm, proj_hi _ b n hn, hn]
  · clear h
    funext i
    obtain ⟨b, n, k, rfl⟩ : ∃ (b : Fin 4) (n : Fin 4352) (k : Fin 512), i = ix3 b n k := ⟨i 0, i 1, i 2, eq_ix3 i⟩
    clean_types
    by_cases hn : n.val < 256
    · pointwise [kX_eq, kC_eq, headCol, headNorm, proj_lo _ b n hn, hn]
    · pointwise [kX_eq, kC_eq, headCol, headNorm, proj_hi _ b n hn, hn]
  · clear h
    funext i
    obtain ⟨b, n, k, rfl⟩ : ∃ (b : Fin 4) (n : Fin 4352) (k : Fin 512), i = ix3 b n k := ⟨i 0, i 1, i 2, eq_ix3 i⟩
    clean_types
    by_cases hn : n.val < 256
    · pointwise [qkvX_eq, qkvC_eq, proj_lo _ b n hn, hn]
    · pointwise [qkvX_eq, qkvC_eq, proj_hi _ b n hn, hn]
  · clear h
    funext i
    obtain ⟨b, n, k, rfl⟩ : ∃ (b : Fin 4) (n : Fin 4352) (k : Fin 1792), i = ix3 b n k := ⟨i 0, i 1, i 2, eq_ix3 i⟩
    clean_types
    by_cases hn : n.val < 256
    · pointwise [projX_eq, projC_eq, proj_lo _ b n hn, hn]
    · pointwise [projX_eq, projC_eq, proj_hi _ b n hn, hn]

end Cert.FrontRef

end
-- ==== Proof.Front.Claim.lean ====
/- The front agrees with its reference: both end at the layer's functions of the arguments. -/
module

public import proofs.«01_k».proof.Defs
public import proofs.«01_k».proof.Proof.Front.Arrays
public import proofs.«01_k».proof.Proof.Front.Ref

@[expose] public section

set_option maxRecDepth 16384

noncomputable section

namespace Cert.Front

open Idealize.ShloMosaic Idealize.ShloMosaic.TcCoe Idealize.SL.Sem

section

variable {x x' : (⟨3, ![4, 4096, 1024]⟩ : Shape).Idx → EReal} {ctx ctx' : (⟨3, ![4, 256, 1024]⟩ : Shape).Idx → EReal}
  {mx mx' : (⟨3, ![4, 9, 1024]⟩ : Shape).Idx → EReal} {ms ms' : (⟨3, ![1, 9, 1024]⟩ : Shape).Idx → EReal}
  {gain gain' : (⟨2, ![3, 1024]⟩ : Shape).Idx → EReal} {up up' : (⟨4, ![4, 2, 1024, 5632]⟩ : Shape).Idx → EReal}
  {down down' : (⟨4, ![4, 2, 2816, 1024]⟩ : Shape).Idx → EReal} {wIn wIn' : (⟨3, ![4, 1024, 3328]⟩ : Shape).Idx → EReal}
  {g g' : (⟨1, ![64]⟩ : Shape).Idx → EReal}

/-- The front's functions of equal arguments are equal. -/
theorem row_congr (h0 : x = x') (h1 : ctx = ctx') (h2 : mx = mx') (h3 : ms = ms') (h4 : gain = gain') (h5 : up = up')
    (h6 : down = down') : Layer.frontRow x ctx mx ms gain up down = Layer.frontRow x' ctx' mx' ms' gain' up' down' := by
  subst h0 h1 h2 h3 h4 h5 h6; rfl

theorem proj_congr (h0 : x = x') (h1 : ctx = ctx') (h2 : mx = mx') (h3 : ms = ms') (h4 : gain = gain') (h5 : up = up')
    (h6 : down = down') (h7 : wIn = wIn') :
    Layer.projRow x ctx mx ms gain up down wIn = Layer.projRow x' ctx' mx' ms' gain' up' down' wIn' := by
  subst h0 h1 h2 h3 h4 h5 h6 h7; rfl

theorem head_congr (o : Nat) (ho : o ≤ 512) (h0 : x = x') (h1 : ctx = ctx') (h2 : mx = mx') (h3 : ms = ms')
    (h4 : gain = gain') (h5 : up = up') (h6 : down = down') (h7 : wIn = wIn') (h8 : g = g') (b : Fin 4) (n : Fin 4352)
    (c : Fin 512) : Layer.headCol x ctx mx ms gain up down wIn o ho g b n c
      = Layer.headCol x' ctx' mx' ms' gain' up' down' wIn' o ho g' b n c := by
  subst h0 h1 h2 h3 h4 h5 h6 h7 h8; rfl

end

/-- At the ideal instance the front and its reference, from memories that agree on the arguments, end with equal results. -/
theorem algebraic : @Cert.algebraic_FrontIdeal_FrontRefIdeal Cert.FrontIdeal.Gen.facts Cert.FrontRefIdeal.Gen.facts := by
  intro m g m' g' _ hagree
  refine ⟨fun c => res8 m c, fun c => res9 m c, fun c => res10 m c, fun c => res11 m c, fun c => res12 m c, ?_, ?_⟩
  · exact (θ_run _ _ _).mono (fun r h c => ⟨(h c).1.trans (arr8 m c), (h c).2.1.trans (arr9 m c),
      (h c).2.2.1.trans (arr10 m c), (h c).2.2.2.1.trans (arr11 m c), (h c).2.2.2.2.1.trans (arr12 m c),
      (h c).2.2.2.2.2⟩) (Cert.FrontIdeal.Value.run_blocks m g)
  · refine (θ_run _ _ _).mono (fun r h c => ?_) (Cert.FrontRef.run_front m' g')
    obtain ⟨h0, h1, h2, h3, h4, hk⟩ := h c
    obtain ⟨a0, a1, a2, a3, a4, a5, a6, a7, a8, a9⟩ := hagree c
    refine ⟨h0.trans ?_, h1.trans ?_, h2.trans ?_, h3.trans ?_, h4.trans ?_, hk⟩ <;> clear h0 h1 h2 h3 h4 hk
    · exact funext fun i => congrFun (congrFun (congrFun (row_congr a0 a1 a2 a3 a4 a5 a6) (i 0)) (i 1)) (i 2)
    · exact funext fun i => congrArg (· * Ideal.ofBits .f32 0x3E000000#32)
        (head_congr 0 (Nat.zero_le _) a0 a1 a2 a3 a4 a5 a6 a7 a8 (i 0) (i 1) (i 2))
    · exact funext fun i => head_congr 512 le_rfl a0 a1 a2 a3 a4 a5 a6 a7 a9 (i 0) (i 1) (i 2)
    · exact funext fun i => congrFun (congrFun (congrFun (proj_congr a0 a1 a2 a3 a4 a5 a6 a7) (i 0)) (i 1)) _
    · exact funext fun i => congrFun (congrFun (congrFun (proj_congr a0 a1 a2 a3 a4 a5 a6 a7) (i 0)) (i 1)) _

end Cert.Front

end
-- ==== Proof.Back.Layer.lean ====
/- The arithmetic of the back at one row, over the extended reals: the normalisation of one head with its mean, the output
   projection of both head groups, and the second half-step feed-forward. -/
module

public import proofs.«01_k».proof.Proof.Layer

@[expose] public section

noncomputable section

namespace Cert.Layer

open Idealize.ShloMosaic

/-- The constant 64 as the programs' literal. -/
abbrev headDim : EReal := Ideal.ofBits .f32 0x42800000#32
/-- The readout's epsilon as the programs' literal. -/
abbrev lnxEps : EReal := Ideal.ofBits .f32 0x3A27C5AC#32

/-- A head less its mean. -/
def headDev (p : Fin 64 → EReal) (i : Fin 64) : EReal := p i - Ideal.div (∑ k, p k) headDim

/-- A head less its mean, divided by the root of its variance. -/
def headLN (p : Fin 64 → EReal) (i : Fin 64) : EReal :=
  headDev p i * Ideal.rsqrt (Ideal.div (∑ k, headDev p k * headDev p k) headDim + lnxEps)

/-- A column of the readout: its head normalised, with gain, bias, bonus and gate. -/
def readout (o lg lb bon g : Fin 512 → EReal) (c : Fin 512) : EReal :=
  (headLN (fun k => o ⟨64 * (c.val / 64) + k.val, by omega⟩) ⟨c.val % 64, by omega⟩ * lg c + lb c + bon c) * g c

/-- The residual row after the output projection of the two head groups. -/
def mixed (x m : Fin 1024 → EReal) (a rw : Fin 512 → EReal) (w : Fin 1024 → Fin 1024 → EReal) (k : Fin 1024) : EReal :=
  x k + m k * ((∑ c : Fin 512, a c * w ⟨c.val, by omega⟩ k) + ∑ c : Fin 512, rw c * w ⟨512 + c.val, by omega⟩ k)

section Back

variable (xs : (⟨3, ![4, 4352, 1024]⟩ : Shape).Idx → EReal) (mx : (⟨3, ![4, 9, 1024]⟩ : Shape).Idx → EReal)
  (ms : (⟨3, ![1, 9, 1024]⟩ : Shape).Idx → EReal) (gain : (⟨2, ![3, 1024]⟩ : Shape).Idx → EReal)
  (attn of ob bon g : (⟨3, ![4, 4352, 512]⟩ : Shape).Idx → EReal) (lg lb : (⟨1, ![512]⟩ : Shape).Idx → EReal)
  (wOut : (⟨3, ![4, 1024, 1024]⟩ : Shape).Idx → EReal) (up : (⟨4, ![4, 2, 1024, 5632]⟩ : Shape).Idx → EReal)
  (down : (⟨4, ![4, 2, 2816, 1024]⟩ : Shape).Idx → EReal)

/-- The back's residual row before the feed-forward. -/
def backMixed (b : Fin 4) (n : Fin 4352) : Fin 1024 → EReal :=
  mixed (fun k => xs (ix3 b n k)) (modAt mx ms b n 5) (fun c => attn (ix3 b n c))
    (readout (fun c => of (ix3 b n c) + ob (ix3 b n c)) (fun c => lg (ix1 c)) (fun c => lb (ix1 c))
      (fun c => bon (ix3 b n c)) (fun c => g (ix3 b n c)))
    (fun c k => wOut (ix3 0 c k))

/-- The back's residual row. -/
def backRow (b : Fin 4) (n : Fin 4352) : Fin 1024 → EReal :=
  halfStep (backMixed xs mx ms attn of ob bon g lg lb wOut b n) (fun l => gain (ix2 2 l)) (modAt mx ms b n 6)
    (modAt mx ms b n 7) (modAt mx ms b n 8) (fun k j => up (ix4 0 1 k j)) (fun j k => down (ix4 0 1 j k))

end Back

end Cert.Layer

end
-- ==== Proof.Back.Body.lean ====
/- What the back's body computes from its blocks, element by element. -/
module

public import proofs.«01_k».proof.Proof.Gen.BackIdeal.Value
public import proofs.«01_k».proof.Proof.Back.Layer
public import Idealize.ShloMosaic.Lib.Pointwise

@[expose] public section

set_option maxRecDepth 16384

noncomputable section

namespace Cert.Back

open Idealize.ShloMosaic Cert.BackIdeal Cert.BackIdeal.Gen Cert.Layer

/-- The sum of each lane's own head of 64, in a chunk of two heads. -/
def headSum (c : FVec Ideal S256x128 .f32) : FVec Ideal S256x128 .f32 :=
  select k0_pay6
    (broadcastTo S256x128 (shapeCast S256x1 (shapeCast S256x1 (multiReduction .add [1] S256
      (select k0_pay6 c (broadcast S256x128 (Scalar.ofBits .f32 0x00000000#32))) 0x00000000#32 reduces_S256x128_S256 (.inl rfl) rfl)
      shapeCasts_S256_S256x1) shapeCasts_S256x1_S256x1) broadcasts_S256x1_S256x128)
    (broadcastTo S256x128 (shapeCast S256x1 (shapeCast S256x1 (multiReduction .add [1] S256
      (select k0_pay6 (broadcast S256x128 (Scalar.ofBits .f32 0x00000000#32)) c) 0x00000000#32 reduces_S256x128_S256 (.inl rfl) rfl)
      shapeCasts_S256_S256x1) shapeCasts_S256x1_S256x1) broadcasts_S256x1_S256x128)

/-- A chunk less its heads' means. -/
def dev (c : FVec Ideal S256x128 .f32) : FVec Ideal S256x128 .f32 :=
  subf c (mulf (headSum c) (broadcast S256x128 (Scalar.ofBits .f32 0x3C800000#32)))

/-- A chunk of two heads, normalised. -/
def chunkLN (c : FVec Ideal S256x128 .f32) : FVec Ideal S256x128 .f32 :=
  mulf (dev c) (rsqrt (addf (mulf (headSum (mulf (dev c) (dev c))) (broadcast S256x128 (Scalar.ofBits .f32 0x3C800000#32)))
    (broadcast S256x128 (Scalar.ofBits .f32 0x3A27C5AC#32))))

theorem headSum_low (c : FVec Ideal S256x128 .f32) (r : Fin 256) (i : Fin 64) :
    headSum c (ix2 r ⟨i.val, by omega⟩) = ∑ k : Fin 64, c (ix2 r ⟨k.val, by omega⟩) := by
  pointwise [headSum, k0_pay6, lane_lt]
  have h := lane_lt ⟨i.val, by omega⟩
  simp only at h
  rw [h, if_pos i.isLt]
  simp only [Scalar.select, Finset.sum_const_zero, add_zero, zero_add]
  exact if_pos rfl

theorem headSum_high (c : FVec Ideal S256x128 .f32) (r : Fin 256) (i : Fin 64) :
    headSum c (ix2 r ⟨64 + i.val, by omega⟩) = ∑ k : Fin 64, c (ix2 r ⟨64 + k.val, by omega⟩) := by
  pointwise [headSum, k0_pay6, lane_lt]
  have h := lane_lt ⟨64 + i.val, by omega⟩
  simp only at h
  rw [h, if_neg (by omega)]
  simp only [Scalar.select, Finset.sum_const_zero, add_zero, zero_add]
  rw [if_neg (by decide)]

/-- The sum at a lane, the lane's head named. -/
theorem headSum_apply (c : FVec Ideal S256x128 .f32) (r : Fin 256) (a : Fin 2) (i : Fin 64) :
    headSum c (ix2 r ⟨64 * a.val + i.val, by omega⟩) = ∑ k : Fin 64, c (ix2 r ⟨64 * a.val + k.val, by omega⟩) := by
  obtain rfl | rfl : a = 0 ∨ a = 1 := by omega
  · have := headSum_low c r i
    simpa using this
  · exact headSum_high c r i

theorem dev_apply (c : FVec Ideal S256x128 .f32) (r : Fin 256) (a : Fin 2) (i : Fin 64) :
    dev c (ix2 r ⟨64 * a.val + i.val, by omega⟩) = headDev (fun k => c (ix2 r ⟨64 * a.val + k.val, by omega⟩)) i := by
  pointwise [dev, headDev, headSum_apply, div_64]

theorem chunkLN_apply (c : FVec Ideal S256x128 .f32) (r : Fin 256) (a : Fin 2) (i : Fin 64) :
    chunkLN c (ix2 r ⟨64 * a.val + i.val, by omega⟩) = headLN (fun k => c (ix2 r ⟨64 * a.val + k.val, by omega⟩)) i := by
  pointwise [chunkLN, headLN, headSum_apply, dev_apply, div_64]

/-- The four chunks' payloads are one computation. -/
theorem chunk0 (a b : Vec Ideal S1x256x512 .f32) : k0_pay9 (k0_pay4 a b) k0_pay6 (k0_pay7 a b) (k0_pay8 a b)
    = chunkLN (extractStridedSlice S256x128 ![0, 0] (k0_pay3 a b) slices_S256x512_o0_0_S256x128) := rfl
theorem chunk1 (v : FVec Ideal S256x512 .f32) : k0_pay15 (k0_pay10 v) k0_pay12 (k0_pay13 v) (k0_pay14 v)
    = chunkLN (extractStridedSlice S256x128 ![0, 128] v slices_S256x512_o0_128_S256x128) := rfl
theorem chunk2 (v : FVec Ideal S256x512 .f32) : k0_pay18 (k0_pay16 v) (k0_pay17 v) (Scalar.ofBits .f32 0x3C800000#32)
    = chunkLN (extractStridedSlice S256x128 ![0, 256] v slices_S256x512_o0_256_S256x128) := rfl
theorem chunk3 (v : FVec Ideal S256x512 .f32) : mulf (k0_pay19 v) (rsqrt (addf (k0_pay20 v) k0_pay21))
    = chunkLN (extractStridedSlice S256x128 ![0, 384] v slices_S256x512_o0_384_S256x128) := rfl

/-- The four normalised chunks side by side. -/
def chunks (v : FVec Ideal S256x512 .f32) : FVec Ideal S256x512 .f32 :=
  concatenate S256x512 1 [⟨S256x128, chunkLN (extractStridedSlice S256x128 ![0, 0] v slices_S256x512_o0_0_S256x128)⟩,
    ⟨S256x128, chunkLN (extractStridedSlice S256x128 ![0, 128] v slices_S256x512_o0_128_S256x128)⟩,
    ⟨S256x128, chunkLN (extractStridedSlice S256x128 ![0, 256] v slices_S256x512_o0_256_S256x128)⟩,
    ⟨S256x128, chunkLN (extractStridedSlice S256x128 ![0, 384] v slices_S256x512_o0_384_S256x128)⟩]
    concatenates_S256x128_S256x128_S256x128_S256x128_S256x512_d1

/-- A chunk from column `o` on, normalised, at a lane: its head of the 512 columns. -/
theorem sliceLN_apply (v : FVec Ideal S256x512 .f32) (o : Nat) (hs : S256x512.Slices ![0, o] S256x128) (r : Fin 256)
    (l : Fin 128) (c : Fin 512) (hc : c.val = o + l.val) (ho : o % 128 = 0) :
    chunkLN (extractStridedSlice S256x128 ![0, o] v hs) (ix2 r l)
      = headLN (fun k => v (ix2 r ⟨64 * (c.val / 64) + k.val, by omega⟩)) ⟨c.val % 64, by omega⟩ := by
  have e := chunkLN_apply (extractStridedSlice S256x128 ![0, o] v hs) r ⟨l.val / 64, by omega⟩ ⟨l.val % 64, by omega⟩
  have e0 : (⟨64 * (l.val / 64) + l.val % 64, by omega⟩ : Fin 128) = l := Fin.ext (by simp; omega)
  simp only [e0] at e
  rw [e]
  refine congrArg₂ headLN (funext fun k => ?_) (Fin.ext (by simp; omega))
  refine extractStridedSlice_apply _ _ _ _ _ fun d => ?_
  fin_cases d
  · simp
  · simp; omega

theorem chunks_apply (v : FVec Ideal S256x512 .f32) (r : Fin 256) (c : Fin 512) :
    chunks v (ix2 r c) = headLN (fun k => v (ix2 r ⟨64 * (c.val / 64) + k.val, by omega⟩)) ⟨c.val % 64, by omega⟩ := by
  pointwise [chunks]
  split
  · exact sliceLN_apply v 0 _ r _ c (by simp) rfl
  split
  · exact sliceLN_apply v 128 _ r _ c (by simp; omega) rfl
  split
  · exact sliceLN_apply v 256 _ r _ c (by simp; omega) rfl
  · exact sliceLN_apply v 384 _ r _ c (by simp; omega) rfl

/-- The residual rows after the output projection, the normalised heads given. -/
theorem pay22_apply (v1 : FVec Ideal S9x1024 .f32) (v49 v92 v135 v155 v174 v175 : FVec Ideal S256x128 .f32)
    (v180 v184 : Vec Ideal S1x512 .f32) (v188 v191 : Vec Ideal S1x256x512 .f32) (v195 : Vec Ideal S1x256x512 .bf16)
    (v197 v200 : Vec Ideal S1x512x1024 .bf16) (v204 : Vec Ideal S1x256x1024 .f32) (n : FVec Ideal S256x512 .f32)
    (hn : concatenate S256x512 1 [⟨S256x128, v49⟩, ⟨S256x128, v92⟩, ⟨S256x128, v135⟩,
      ⟨S256x128, mulf v155 (rsqrt (addf v174 v175))⟩] concatenates_S256x128_S256x128_S256x128_S256x128_S256x512_d1 = n)
    (r : Fin 256) (k : Fin 1024) :
    k0_pay22 v1 v49 v92 v135 v155 v174 v175 v180 v184 v188 v191 v195 v197 v200 v204 (ix2 r k)
      = v204 (ix3 0 r k) + v1 (ix2 5 k) * ((∑ c : Fin 512, v195 (ix3 0 r c) * v197 (ix3 0 c k))
        + ∑ c : Fin 512, (n (ix2 r c) * v180 (ix2 0 c) + v184 (ix2 0 c) + v188 (ix3 0 r c)) * v191 (ix3 0 r c) * v200 (ix3 0 c k)) := by
  unfold k0_pay22
  rw [hn]
  pointwise

/-- The gated columns, from the residual rows. -/
theorem pay24_apply (v1 : FVec Ideal S9x1024 .f32) (v209 : FVec Ideal S256x1024 .f32) (v210 : Vec Ideal S1x1024 .f32)
    (v233 v236 : Vec Ideal S1x1x1024x2816 .bf16) (wu : Fin 1024 → Fin 5632 → EReal)
    (h0 : ∀ k j, v233 (ix4 0 0 k j) = wu k ⟨j.val, by omega⟩) (h1 : ∀ k j, v236 (ix4 0 0 k j) = wu k ⟨2816 + j.val, by omega⟩)
    (r : Fin 256) (j : Fin 2816) :
    k0_pay24 v1 v209 v210 v233 v236 (ix2 r j)
      = gated (rowMul (modulated (fun l => v209 (ix2 r l)) (fun l => v210 (ix2 0 l)) (fun l => v1 (ix2 6 l)) (fun l => v1 (ix2 7 l))) wu) j := by
  pointwise [k0_pay24, gated, rowMul, modulated, h0, h1]
  simp only [zero_sub]

/-- The block stored, from the residual rows and the gated columns. -/
theorem pay1_apply (v1 : FVec Ideal S9x1024 .f32) (v209 : FVec Ideal S256x1024 .f32) (v248 : FVec Ideal S256x2816 .bf16)
    (v249 : Vec Ideal S1x1x2816x1024 .bf16) (z : Fin 1) (r : Fin 256) (k : Fin 1024) :
    k0_pay1 v1 v209 k0_pay23 v248 v249 (ix3 z r k)
      = v209 (ix2 r k) + half * v1 (ix2 8 k) * ∑ j, v248 (ix2 r j) * v249 (ix4 0 0 j k) := by
  pointwise [k0_pay1, k0_pay23]

/-- The residual rows after the output projection, from the blocks. -/
def mixedRow (x0 : Vec Ideal S1x256x1024 .f32) (x1 : Vec Ideal S1x1x9x1024 .f32) (x3 : Vec Ideal S1x256x512 .bf16)
    (x4 x5 x6 x7 : Vec Ideal S1x256x512 .f32) (x8 x9 : Vec Ideal S1x512 .f32) (x10 : Vec Ideal S1x1024x1024 .bf16) (r : Fin 256) :
    Fin 1024 → EReal :=
  mixed (fun k => x0 (ix3 0 r k)) (fun k => x1 (ix4 0 0 5 k)) (fun c => x3 (ix3 0 r c))
    (readout (fun c => x4 (ix3 0 r c) + x5 (ix3 0 r c)) (fun c => x8 (ix2 0 c)) (fun c => x9 (ix2 0 c)) (fun c => x6 (ix3 0 r c))
      (fun c => x7 (ix3 0 r c))) (fun c k => x10 (ix3 0 c k))

variable (x0 : Vec Ideal S1x256x1024 .f32) (x1 : Vec Ideal S1x1x9x1024 .f32) (x2 : Vec Ideal S3x1024 .f32)
  (x3 : Vec Ideal S1x256x512 .bf16) (x4 x5 x6 x7 : Vec Ideal S1x256x512 .f32) (x8 x9 : Vec Ideal S1x512 .f32)
  (x10 : Vec Ideal S1x1024x1024 .bf16) (x11 : Vec Ideal S1x1x1024x5632 .bf16) (x12 : Vec Ideal S1x1x2816x1024 .bf16)

theorem pay27_eq (r : Fin 256) (k : Fin 1024) :
    k0_pay27 x0 x1 x2 x3 x4 x5 x6 x7 x8 x9 x10 x11 x12 (ix2 r k) = mixedRow x0 x1 x3 x4 x5 x6 x7 x8 x9 x10 r k := by
  unfold k0_pay27
  refine (pay22_apply _ _ _ _ _ _ _ _ _ _ _ _ _ _ _ (chunks (k0_pay26 x0 x1 x2 x3 x4 x5 x6 x7 x8 x9 x10 x11 x12)) ?_ r k).trans ?_
  · rfl
  simp only [chunks_apply]
  pointwise [k0_pay25, k0_pay26, k0_pay2, k0_pay3, mixedRow, mixed, readout]

/-- The block's row, from the blocks. -/
theorem out13_eq (r : Fin 256) (k : Fin 1024) :
    out0_13 x0 x1 x2 x3 x4 x5 x6 x7 x8 x9 x10 x11 x12 (ix3 0 r k)
      = halfStep (mixedRow x0 x1 x3 x4 x5 x6 x7 x8 x9 x10 r) (fun l => x2 (ix2 2 l)) (fun l => x1 (ix4 0 0 6 l))
        (fun l => x1 (ix4 0 0 7 l)) (fun l => x1 (ix4 0 0 8 l)) (fun k j => x11 (ix4 0 0 k j)) (fun j k => x12 (ix4 0 0 j k)) k := by
  unfold out0_13
  rw [View.canon_unit_zero (by funext a; fin_cases a <;> rfl), pay1_apply]
  have e : ∀ j, k0_pay24 (k0_pay25 x0 x1 x2 x3 x4 x5 x6 x7 x8 x9 x10 x11 x12) (k0_pay27 x0 x1 x2 x3 x4 x5 x6 x7 x8 x9 x10 x11 x12)
      (View.ld x2 r0_6) (View.ld x11 r0_7) (View.ld x11 r0_8) (ix2 r j) = _ := fun j =>
    pay24_apply _ _ _ _ _ (fun k j => x11 (ix4 0 0 k j)) (fun k j => by pointwise) (fun k j => by pointwise) r j
  simp only [e, pay27_eq]
  pointwise [k0_pay25, k0_pay2, halfStep]
  rfl

end Cert.Back

end
-- ==== Proof.Back.Arrays.lean ====
/- The back's result array after its run, as the layer's function of its arguments. -/
module

public import proofs.«01_k».proof.Proof.Back.Body
public import Idealize.ShloMosaic.Lib.Pipeline.ValueKit

@[expose] public section

set_option maxRecDepth 16384

noncomputable section

namespace Cert.Back

open Idealize.ShloMosaic Idealize.ShloMosaic.TcCoe Idealize.SL.Sem Cert.BackIdeal Cert.BackIdeal.Gen Cert.Layer

variable (m : (ℓ : Loc nD τ sig) → Buf (Elt Ideal) ℓ)

/-- The batch entry of a grid point. -/
def bOf (t : Fin cfg0.N) : Fin 4 := ⟨t.val / 17, by have := t.isLt; have : cfg0.N = 68 := N_0; omega⟩

/-- The row of the stream that is a block's row at a grid point. -/
def nOf (t : Fin cfg0.N) (r : Fin 256) : Fin 4352 := ⟨t.val % 17 * 256 + r.val, by omega⟩

theorem blk0 (c : Dev nD) (t : Fin cfg0.N) (r : Fin 256) (k : Fin 1024) :
    iblk m c 0 t (ix3 0 r k) = V m c main_arg0 (ix3 (bOf t) (nOf t r) k) := by
  have hi : ∀ t : Fin cfg0.N, win0_0.index t = ![t.val / 17, t.val % 17, 0] := by decide +kernel
  unfold iblk
  blk_simp
  refine congrArg (V m c main_arg0) (funext fun a => Fin.ext ?_)
  fin_cases a <;> blk_simp <;> simp [hi t, bOf, nOf]

theorem blk1 (c : Dev nD) (t : Fin cfg0.N) (s : Fin 9) (k : Fin 1024) :
    iblk m c 1 t (ix4 0 0 s k) = V m c main_v3 (ix4 (bOf t) ⟨min (t.val % 17) 1, by omega⟩ s k) := by
  have hi : ∀ t : Fin cfg0.N, win0_1.index t = ![t.val / 17, min (t.val % 17) 1, 0, 0] := by decide +kernel
  unfold iblk
  blk_simp
  refine congrArg (V m c main_v3) (funext fun a => Fin.ext ?_)
  fin_cases a <;> blk_simp <;> simp [hi t, bOf, nOf]

theorem blk2 (c : Dev nD) (t : Fin cfg0.N) (s : Fin 3) (k : Fin 1024) :
    iblk m c 2 t (ix2 s k) = V m c main_arg3 (ix2 s k) := by
  have hi : ∀ t : Fin cfg0.N, win0_2.index t = ![0, 0] := by decide +kernel
  unfold iblk
  blk_simp
  refine congrArg (V m c main_arg3) (funext fun a => Fin.ext ?_)
  fin_cases a <;> blk_simp <;> simp [hi t, bOf, nOf]

theorem blk3 (c : Dev nD) (t : Fin cfg0.N) (r : Fin 256) (k : Fin 512) :
    iblk m c 3 t (ix3 0 r k) = V m c main_arg4 (ix3 (bOf t) (nOf t r) k) := by
  have hi : ∀ t : Fin cfg0.N, win0_3.index t = ![t.val / 17, t.val % 17, 0] := by decide +kernel
  unfold iblk
  blk_simp
  refine congrArg (V m c main_arg4) (funext fun a => Fin.ext ?_)
  fin_cases a <;> blk_simp <;> simp [hi t, bOf, nOf]

theorem blk4 (c : Dev nD) (t : Fin cfg0.N) (r : Fin 256) (k : Fin 512) :
    iblk m c 4 t (ix3 0 r k) = V m c main_arg5 (ix3 (bOf t) (nOf t r) k) := by
  have hi : ∀ t : Fin cfg0.N, win0_4.index t = ![t.val / 17, t.val % 17, 0] := by decide +kernel
  unfold iblk
  blk_simp
  refine congrArg (V m c main_arg5) (funext fun a => Fin.ext ?_)
  fin_cases a <;> blk_simp <;> simp [hi t, bOf, nOf]

theorem blk5 (c : Dev nD) (t : Fin cfg0.N) (r : Fin 256) (k : Fin 512) :
    iblk m c 5 t (ix3 0 r k) = V m c main_arg6 (ix3 (bOf t) (nOf t r) k) := by
  have hi : ∀ t : Fin cfg0.N, win0_5.index t = ![t.val / 17, t.val % 17, 0] := by decide +kernel
  unfold iblk
  blk_simp
  refine congrArg (V m c main_arg6) (funext fun a => Fin.ext ?_)
  fin_cases a <;> blk_simp <;> simp [hi t, bOf, nOf]

theorem blk6 (c : Dev nD) (t : Fin cfg0.N) (r : Fin 256) (k : Fin 512) :
    iblk m c 6 t (ix3 0 r k) = V m c main_arg7 (ix3 (bOf t) (nOf t r) k) := by
  have hi : ∀ t : Fin cfg0.N, win0_6.index t = ![t.val / 17, t.val % 17, 0] := by decide +kernel
  unfold iblk
  blk_simp
  refine congrArg (V m c main_arg7) (funext fun a => Fin.ext ?_)
  fin_cases a <;> blk_simp <;> simp [hi t, bOf, nOf]

theorem blk7 (c : Dev nD) (t : Fin cfg0.N) (r : Fin 256) (k : Fin 512) :
    iblk m c 7 t (ix3 0 r k) = V m c main_arg8 (ix3 (bOf t) (nOf t r) k) := by
  have hi : ∀ t : Fin cfg0.N, win0_7.index t = ![t.val / 17, t.val % 17, 0] := by decide +kernel
  unfold iblk
  blk_simp
  refine congrArg (V m c main_arg8) (funext fun a => Fin.ext ?_)
  fin_cases a <;> blk_simp <;> simp [hi t, bOf, nOf]

theorem blk8 (c : Dev nD) (t : Fin cfg0.N) (k : Fin 512) :
    iblk m c 8 t (ix2 0 k) = V m c main_v4 (ix2 0 k) := by
  have hi : ∀ t : Fin cfg0.N, win0_8.index t = ![0, 0] := by decide +kernel
  unfold iblk
  blk_simp
  refine congrArg (V m c main_v4) (funext fun a => Fin.ext ?_)
  fin_cases a <;> blk_simp <;> simp [hi t, bOf, nOf]

theorem blk9 (c : Dev nD) (t : Fin cfg0.N) (k : Fin 512) :
    iblk m c 9 t (ix2 0 k) = V m c main_v5 (ix2 0 k) := by
  have hi : ∀ t : Fin cfg0.N, win0_9.index t = ![0, 0] := by decide +kernel
  unfold iblk
  blk_simp
  refine congrArg (V m c main_v5) (funext fun a => Fin.ext ?_)
  fin_cases a <;> blk_simp <;> simp [hi t, bOf, nOf]

theorem blk10 (c : Dev nD) (t : Fin cfg0.N) (k : Fin 1024) (j : Fin 1024) :
    iblk m c 10 t (ix3 0 k j) = V m c main_v6 (ix3 0 k j) := by
  have hi : ∀ t : Fin cfg0.N, win0_10.index t = ![0, 0, 0] := by decide +kernel
  unfold iblk
  blk_simp
  refine congrArg (V m c main_v6) (funext fun a => Fin.ext ?_)
  fin_cases a <;> blk_simp <;> simp [hi t, bOf, nOf]

theorem blk11 (c : Dev nD) (t : Fin cfg0.N) (k : Fin 1024) (j : Fin 5632) :
    iblk m c 11 t (ix4 0 0 k j) = V m c main_v7 (ix4 0 1 k j) := by
  have hi : ∀ t : Fin cfg0.N, win0_11.index t = ![0, 1, 0, 0] := by decide +kernel
  unfold iblk
  blk_simp
  refine congrArg (V m c main_v7) (funext fun a => Fin.ext ?_)
  fin_cases a <;> blk_simp <;> simp [hi t, bOf, nOf]

theorem blk12 (c : Dev nD) (t : Fin cfg0.N) (k : Fin 2816) (j : Fin 1024) :
    iblk m c 12 t (ix4 0 0 k j) = V m c main_v8 (ix4 0 1 k j) := by
  have hi : ∀ t : Fin cfg0.N, win0_12.index t = ![0, 1, 0, 0] := by decide +kernel
  unfold iblk
  blk_simp
  refine congrArg (V m c main_v8) (funext fun a => Fin.ext ?_)
  fin_cases a <;> blk_simp <;> simp [hi t, bOf, nOf]

variable (c : Dev nD)

/-- The arguments as the run finds them. -/
abbrev argXs := m ((c : Thread nD τ).loc main_arg0)
abbrev argMx := m ((c : Thread nD τ).loc main_arg1)
abbrev argMs := m ((c : Thread nD τ).loc main_arg2)
abbrev argGain := m ((c : Thread nD τ).loc main_arg3)
abbrev argAttn := m ((c : Thread nD τ).loc main_arg4)
abbrev argOf := m ((c : Thread nD τ).loc main_arg5)
abbrev argOb := m ((c : Thread nD τ).loc main_arg6)
abbrev argBon := m ((c : Thread nD τ).loc main_arg7)
abbrev argG := m ((c : Thread nD τ).loc main_arg8)
abbrev argLg := m ((c : Thread nD τ).loc main_arg9)
abbrev argLb := m ((c : Thread nD τ).loc main_arg10)
abbrev argWo := m ((c : Thread nD τ).loc main_arg11)
abbrev argUp := m ((c : Thread nD τ).loc main_arg12)
abbrev argDown := m ((c : Thread nD τ).loc main_arg13)

theorem host3 (b : Fin 4) (n : Fin 4352) (z : Fin 2) (hz : z.val = if n.val < 256 then 0 else 1) (s : Fin 9) (k : Fin 1024) :
    V m c main_v3 (ix4 b z s k) = modAt (argMx m c) (argMs m c) b n s k := by
  show StableHlo.after hostOps0 _ _ _ = _
  after_results
  pointwise [modAt]
  by_cases h : n.val < 256
  · rw [if_pos h] at hz; rw [dif_pos (by omega), if_pos h]
  · rw [if_neg h] at hz; rw [dif_neg (by omega), if_neg h]

theorem host4 (k : Fin 512) : V m c main_v4 (ix2 0 k) = argLg m c (ix1 k) := by
  show StableHlo.after hostOps0 _ _ _ = _
  after_results
  pointwise

theorem host5 (k : Fin 512) : V m c main_v5 (ix2 0 k) = argLb m c (ix1 k) := by
  show StableHlo.after hostOps0 _ _ _ = _
  after_results
  pointwise

theorem host6 (i) : V m c main_v6 i = argWo m c i := by
  show StableHlo.after hostOps0 _ _ _ = _
  after_results
  rfl

theorem host7 (i) : V m c main_v7 i = argUp m c i := by
  show StableHlo.after hostOps0 _ _ _ = _
  after_results
  rfl

theorem host8 (i) : V m c main_v8 i = argDown m c i := by
  show StableHlo.after hostOps0 _ _ _ = _
  after_results
  rfl

theorem mod_blk (t : Fin cfg0.N) (r : Fin 256) (s : Fin 9) :
    (fun l => iblk m c 1 t (ix4 0 0 s l)) = modAt (argMx m c) (argMs m c) (bOf t) (nOf t r) s := by
  funext k
  rw [blk1]
  refine host3 m c _ _ _ ?_ _ _
  show min (t.val % 17) 1 = if t.val % 17 * 256 + r.val < 256 then 0 else 1
  split <;> omega

/-- The readout of equal operands. -/
theorem readout_congr {o o' lg lg' lb lb' bon bon' g g' : Fin 512 → EReal} (h0 : o = o') (h1 : lg = lg') (h2 : lb = lb')
    (h3 : bon = bon') (h4 : g = g') : readout o lg lb bon g = readout o' lg' lb' bon' g' := by
  subst h0 h1 h2 h3 h4; rfl

/-- The rows after the output projection, of equal operands. -/
theorem mixed_congr {x x' q q' : Fin 1024 → EReal} {a a' rw rw' : Fin 512 → EReal} {w w' : Fin 1024 → Fin 1024 → EReal}
    (h0 : x = x') (h1 : q = q') (h2 : a = a') (h3 : rw = rw') (h4 : w = w') : mixed x q a rw w = mixed x' q' a' rw' w' := by
  subst h0 h1 h2 h3 h4; rfl

/-- The half-step of equal operands. -/
theorem halfStep_congr {x x' g g' sh sh' sc sc' q q' : Fin 1024 → EReal} {wu wu' : Fin 1024 → Fin 5632 → EReal}
    {wd wd' : Fin 2816 → Fin 1024 → EReal} (h0 : x = x') (h1 : g = g') (h2 : sh = sh') (h3 : sc = sc') (h4 : q = q')
    (h5 : wu = wu') (h6 : wd = wd') : halfStep x g sh sc q wu wd = halfStep x' g' sh' sc' q' wu' wd' := by
  subst h0 h1 h2 h3 h4 h5 h6; rfl

/-- The body's rows after the output projection are the back's. -/
theorem mixedRow_eq (t : Fin cfg0.N) (r : Fin 256) :
    mixedRow (iblk m c 0 t) (iblk m c 1 t) (iblk m c 3 t) (iblk m c 4 t) (iblk m c 5 t) (iblk m c 6 t) (iblk m c 7 t) (iblk m c 8 t) (iblk m c 9 t) (iblk m c 10 t) r
      = backMixed (argXs m c) (argMx m c) (argMs m c) (argAttn m c) (argOf m c) (argOb m c) (argBon m c) (argG m c) (argLg m c) (argLb m c) (argWo m c) (bOf t) (nOf t r) := by
  unfold mixedRow backMixed
  refine mixed_congr (funext fun k => (blk0 m c t r k).trans (congrFun (V_main_arg0 m c) _)) (mod_blk m c t r 5)
    (funext fun k => (blk3 m c t r k).trans (congrFun (V_main_arg4 m c) _)) (readout_congr (funext fun k => ?_)
      (funext fun k => (blk8 m c t k).trans (host4 m c k)) (funext fun k => (blk9 m c t k).trans (host5 m c k))
      (funext fun k => (blk6 m c t r k).trans (congrFun (V_main_arg7 m c) _))
      (funext fun k => (blk7 m c t r k).trans (congrFun (V_main_arg8 m c) _)))
    (funext fun k => funext fun j => (blk10 m c t k j).trans (host6 m c _))
  exact congrArg₂ (· + ·) ((blk4 m c t r k).trans (congrFun (V_main_arg5 m c) _))
    ((blk5 m c t r k).trans (congrFun (V_main_arg6 m c) _))

/-- The residual stream after the back. -/
def res13 (i : S4x4352x1024.Idx) : EReal :=
  backRow (argXs m c) (argMx m c) (argMs m c) (argGain m c) (argAttn m c) (argOf m c) (argOb m c) (argBon m c) (argG m c) (argLg m c) (argLb m c) (argWo m c) (argUp m c) (argDown m c) (i 0) (i 1) (i 2)

theorem arr13 : (dats m 0 c).arrAt 13 cfg0.N = res13 m c := by
  have hi : ∀ t : Fin cfg0.N, win0_13.index t = ![t.val / 17, t.val % 17, 0] := by decide +kernel
  refine (dats m 0 c).arrAt_eq_of_covers 13 _ (by decide +kernel) fun t hf y => ?_
  blk_simp
  rw [after0_13]
  obtain ⟨z, r, k, rfl⟩ : ∃ (z : Fin 1) (r : Fin 256) (k : Fin 1024), y = ix3 z r k := ⟨y 0, y 1, y 2, eq_ix3 y⟩
  obtain rfl : z = 0 := Subsingleton.elim _ _
  have he : (win0_13.blk t).view.emb (ix3 0 r k) = ix3 (bOf t) (nOf t r) k := by
    funext a; apply Fin.ext
    fin_cases a <;> blk_simp <;> simp [hi t, bOf, nOf]
  rw [he]
  unfold res13
  refine (out13_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r k).trans ?_
  exact congrFun (halfStep_congr (mixedRow_eq m c t r) (funext fun k => (blk2 m c t 2 k).trans (congrFun (V_main_arg3 m c) _))
    (mod_blk m c t r 6) (mod_blk m c t r 7) (mod_blk m c t r 8)
    (funext fun k => funext fun j => (blk11 m c t k j).trans (host7 m c _))
    (funext fun j => funext fun k => (blk12 m c t j k).trans (host8 m c _))) k

end Cert.Back

end
-- ==== Proof.Back.Ref.lean ====
/- The back's reference read down to the layer's function of its arguments. -/
module

public import proofs.«01_k».proof.Proof.Back.Layer
public import proofs.«01_k».proof.Proof.Gen.BackRefIdeal.Run
public import Idealize.ShloMosaic.Lib.Pointwise
public import Idealize.ShloMosaic.Lib.Tactic.CleanTypes

@[expose] public section

set_option maxRecDepth 16384

noncomputable section

namespace Cert.BackRef

open Idealize.ShloMosaic Idealize.ShloMosaic.TcCoe Idealize.SL.Sem Cert.BackRefIdeal Cert.BackRefIdeal.Gen
  Cert.BackRefIdeal.Value Cert.Layer

variable (V0 : Valuation τ sig (Elt Ideal))

/-- The arguments as the reference finds them. -/
abbrev aXs : S4x4352x1024.Idx → EReal := V0 (Proc.devRef .tc main_arg0)
abbrev aMx : S4x9x1024.Idx → EReal := V0 (Proc.devRef .tc main_arg1)
abbrev aMs : S1x9x1024.Idx → EReal := V0 (Proc.devRef .tc main_arg2)
abbrev aGain : S3x1024.Idx → EReal := V0 (Proc.devRef .tc main_arg3)
abbrev aAttn : S4x4352x512.Idx → EReal := V0 (Proc.devRef .tc main_arg4)
abbrev aOf : S4x4352x512.Idx → EReal := V0 (Proc.devRef .tc main_arg5)
abbrev aOb : S4x4352x512.Idx → EReal := V0 (Proc.devRef .tc main_arg6)
abbrev aBon : S4x4352x512.Idx → EReal := V0 (Proc.devRef .tc main_arg7)
abbrev aG : S4x4352x512.Idx → EReal := V0 (Proc.devRef .tc main_arg8)
abbrev aLg : S512.Idx → EReal := V0 (Proc.devRef .tc main_arg9)
abbrev aLb : S512.Idx → EReal := V0 (Proc.devRef .tc main_arg10)
abbrev aWo : S4x1024x1024.Idx → EReal := V0 (Proc.devRef .tc main_arg11)
abbrev aUp : S4x2x1024x5632.Idx → EReal := V0 (Proc.devRef .tc main_arg12)
abbrev aDown : S4x2x2816x1024.Idx → EReal := V0 (Proc.devRef .tc main_arg13)

theorem attn_eq (b : Fin 4) (n : Fin 4352) (c : Fin 512) : res_main_v0 V0 (ix3 b n c) = aAttn V0 (ix3 b n c) := by
  unfold res_main_v0
  clean_types
  pointwise

theorem scan_eq (b : Fin 4) (n : Fin 4352) (c : Fin 512) :
    res_main_v1 V0 (ix3 b n c) = aOf V0 (ix3 b n c) + aOb V0 (ix3 b n c) := by
  unfold res_main_v1
  clean_types
  pointwise

section

variable (b : Fin 4) (n : Fin 256)

/-- The row of the stream that is the context's row. -/
def rowC : Fin 4352 := ⟨n.val, by omega⟩

/-- A head of the context's recurrence outputs. -/
def headC (h : Fin 8) (e : Fin 64) : EReal :=
  aOf V0 (ix3 b (rowC n) ⟨64 * h.val + e.val, by omega⟩) + aOb V0 (ix3 b (rowC n) ⟨64 * h.val + e.val, by omega⟩)

/-- A row of the context after the output projection. -/
def mixedC : Fin 1024 → EReal :=
  mixed (fun k => aXs V0 (ix3 b (rowC n) k)) (fun l => aMs V0 (ix3 0 5 l)) (fun c => aAttn V0 (ix3 b (rowC n) c))
    (readout (fun c => aOf V0 (ix3 b (rowC n) c) + aOb V0 (ix3 b (rowC n) c)) (fun c => aLg V0 (ix1 c)) (fun c => aLb V0 (ix1 c))
      (fun c => aBon V0 (ix3 b (rowC n) c)) (fun c => aG V0 (ix3 b (rowC n) c))) (fun c k => aWo V0 (ix3 0 c k))

/-- A row of the context after the second half-step. -/
def backC : Fin 1024 → EReal :=
  halfStep (mixedC V0 b n) (fun l => aGain V0 (ix2 2 l)) (fun l => aMs V0 (ix3 0 6 l)) (fun l => aMs V0 (ix3 0 7 l)) (fun l => aMs V0 (ix3 0 8 l)) (fun k j => aUp V0 (ix4 0 1 k j)) (fun j k => aDown V0 (ix4 0 1 j k))

theorem headsC_eq (h : Fin 8) (e : Fin 64) : res_main_v21 V0 (ix4 b n h e) = headC V0 b n h e := by
  unfold res_main_v21
  clean_types
  pointwise [scan_eq]
  exact congrArg₂ (· + ·) (congrArg (fun l => aOf V0 (ix3 b (rowC n) l)) (Fin.ext (by show h.val * 64 + e.val = 64 * h.val + e.val; omega)))
    (congrArg (fun l => aOb V0 (ix3 b (rowC n) l)) (Fin.ext (by show h.val * 64 + e.val = 64 * h.val + e.val; omega)))

theorem meanC_eq (h : Fin 8) (z : Fin 1) : res_main_v25 V0 (ix4 b n h z) = Ideal.div (∑ k, headC V0 b n h k) headDim := by
  unfold res_main_v25
  clean_types
  pointwise [headsC_eq]

theorem devC_eq (h : Fin 8) (e : Fin 64) : res_main_v27 V0 (ix4 b n h e) = headDev (headC V0 b n h) e := by
  unfold res_main_v27
  clean_types
  pointwise [headsC_eq, meanC_eq, headDev]

theorem mixC_eq (k : Fin 1024) : res_main_v55 V0 (ix3 b n k) = mixedC V0 b n k := by
  unfold res_main_v55 mixedC mixed
  clean_types
  pointwise [headsC_eq, meanC_eq, devC_eq, attn_eq, readout, headLN]
  rfl

theorem upC_eq (j : Fin 5632) :
    res_main_v83 V0 (ix3 b n j)
      = rowMul (modulated (mixedC V0 b n) (fun l => aGain V0 (ix2 2 l)) (fun l => aMs V0 (ix3 0 6 l)) (fun l => aMs V0 (ix3 0 7 l))) (fun k j => aUp V0 (ix4 0 1 k j)) j := by
  unfold res_main_v83
  clean_types
  pointwise [rowMul, modulated, mixC_eq]

theorem gateC_eq (j : Fin 2816) : res_main_v84 V0 (ix3 b n j) = res_main_v83 V0 (ix3 b n ⟨j.val, by omega⟩) := by
  unfold res_main_v84
  clean_types
  pointwise

end

section

variable (b : Fin 4) (n : Fin 4096)

/-- The row of the stream that is the latent stream's row. -/
def rowX : Fin 4352 := ⟨256 + n.val, by omega⟩

/-- A head of the latent stream's recurrence outputs. -/
def headX (h : Fin 8) (e : Fin 64) : EReal :=
  aOf V0 (ix3 b (rowX n) ⟨64 * h.val + e.val, by omega⟩) + aOb V0 (ix3 b (rowX n) ⟨64 * h.val + e.val, by omega⟩)

/-- A row of the latent stream after the output projection. -/
def mixedX : Fin 1024 → EReal :=
  mixed (fun k => aXs V0 (ix3 b (rowX n) k)) (fun l => aMx V0 (ix3 b 5 l)) (fun c => aAttn V0 (ix3 b (rowX n) c))
    (readout (fun c => aOf V0 (ix3 b (rowX n) c) + aOb V0 (ix3 b (rowX n) c)) (fun c => aLg V0 (ix1 c)) (fun c => aLb V0 (ix1 c))
      (fun c => aBon V0 (ix3 b (rowX n) c)) (fun c => aG V0 (ix3 b (rowX n) c))) (fun c k => aWo V0 (ix3 0 c k))

/-- A row of the latent stream after the second half-step. -/
def backX : Fin 1024 → EReal :=
  halfStep (mixedX V0 b n) (fun l => aGain V0 (ix2 2 l)) (fun l => aMx V0 (ix3 b 6 l)) (fun l => aMx V0 (ix3 b 7 l)) (fun l => aMx V0 (ix3 b 8 l)) (fun k j => aUp V0 (ix4 0 1 k j)) (fun j k => aDown V0 (ix4 0 1 j k))

theorem headsX_eq (h : Fin 8) (e : Fin 64) : res_main_v101 V0 (ix4 b n h e) = headX V0 b n h e := by
  unfold res_main_v101
  clean_types
  pointwise [scan_eq]
  exact congrArg₂ (· + ·) (congrArg (fun l => aOf V0 (ix3 b (rowX n) l)) (Fin.ext (by show h.val * 64 + e.val = 64 * h.val + e.val; omega)))
    (congrArg (fun l => aOb V0 (ix3 b (rowX n) l)) (Fin.ext (by show h.val * 64 + e.val = 64 * h.val + e.val; omega)))

theorem meanX_eq (h : Fin 8) (z : Fin 1) : res_main_v105 V0 (ix4 b n h z) = Ideal.div (∑ k, headX V0 b n h k) headDim := by
  unfold res_main_v105
  clean_types
  pointwise [headsX_eq]

theorem devX_eq (h : Fin 8) (e : Fin 64) : res_main_v107 V0 (ix4 b n h e) = headDev (headX V0 b n h) e := by
  unfold res_main_v107
  clean_types
  pointwise [headsX_eq, meanX_eq, headDev]

theorem mixX_eq (k : Fin 1024) : res_main_v135 V0 (ix3 b n k) = mixedX V0 b n k := by
  unfold res_main_v135 mixedX mixed
  clean_types
  pointwise [headsX_eq, meanX_eq, devX_eq, attn_eq, readout, headLN]
  rfl

theorem upX_eq (j : Fin 5632) :
    res_main_v163 V0 (ix3 b n j)
      = rowMul (modulated (mixedX V0 b n) (fun l => aGain V0 (ix2 2 l)) (fun l => aMx V0 (ix3 b 6 l)) (fun l => aMx V0 (ix3 b 7 l))) (fun k j => aUp V0 (ix4 0 1 k j)) j := by
  unfold res_main_v163
  clean_types
  pointwise [rowMul, modulated, mixX_eq]

theorem gateX_eq (j : Fin 2816) : res_main_v164 V0 (ix3 b n j) = res_main_v163 V0 (ix3 b n ⟨j.val, by omega⟩) := by
  unfold res_main_v164
  clean_types
  pointwise

end

/-- The back's function at a row of the context. -/
theorem back_lo (b : Fin 4) (n : Fin 4352) (h : n.val < 256) :
    backRow (aXs V0) (aMx V0) (aMs V0) (aGain V0) (aAttn V0) (aOf V0) (aOb V0) (aBon V0) (aG V0) (aLg V0) (aLb V0) (aWo V0) (aUp V0) (aDown V0) b n = backC V0 b ⟨n.val, h⟩ := by
  have e : backMixed (aXs V0) (aMx V0) (aMs V0) (aAttn V0) (aOf V0) (aOb V0) (aBon V0) (aG V0) (aLg V0) (aLb V0) (aWo V0) b n = mixedC V0 b ⟨n.val, h⟩ := by
    unfold backMixed mixedC
    rw [modAt_lo _ _ _ _ _ h]
    rfl
  unfold backRow backC
  rw [e, modAt_lo _ _ _ _ _ h, modAt_lo _ _ _ _ _ h, modAt_lo _ _ _ _ _ h]

/-- The back's function at a row of the latent stream. -/
theorem back_hi (b : Fin 4) (n : Fin 4352) (h : ¬ n.val < 256) :
    backRow (aXs V0) (aMx V0) (aMs V0) (aGain V0) (aAttn V0) (aOf V0) (aOb V0) (aBon V0) (aG V0) (aLg V0) (aLb V0) (aWo V0) (aUp V0) (aDown V0) b n = backX V0 b ⟨n.val - 256, by omega⟩ := by
  have hr : n = rowX ⟨n.val - 256, by omega⟩ := Fin.ext (by show n.val = 256 + (n.val - 256); omega)
  have e : backMixed (aXs V0) (aMx V0) (aMs V0) (aAttn V0) (aOf V0) (aOb V0) (aBon V0) (aG V0) (aLg V0) (aLb V0) (aWo V0) b n = mixedX V0 b ⟨n.val - 256, by omega⟩ := by
    unfold backMixed mixedX
    rw [modAt_hi _ _ _ _ _ h, ← hr]
  unfold backRow backX
  rw [e, modAt_hi _ _ _ _ _ h, modAt_hi _ _ _ _ _ h, modAt_hi _ _ _ _ _ h]

variable (m : (ℓ : Loc nD τ sig) → Buf (Elt Ideal) ℓ) (ρ : Dev nD → PrngReg)

/-- The reference's result is the back's function of its arguments, which it leaves as they were. -/
theorem run_back : θ_run defs (onTc (τ := τ) (main (F := Ideal))) ⟨m, fun _ => 0, ρ⟩ fun r => ∀ c : Dev nD,
      r.2.mem ((c.tc : Thread nD τ).loc main_v172) = (fun i : S4x4352x1024.Idx =>
        backRow (aXs (StableHlo.launchContents m c)) (aMx (StableHlo.launchContents m c)) (aMs (StableHlo.launchContents m c)) (aGain (StableHlo.launchContents m c)) (aAttn (StableHlo.launchContents m c)) (aOf (StableHlo.launchContents m c)) (aOb (StableHlo.launchContents m c)) (aBon (StableHlo.launchContents m c)) (aG (StableHlo.launchContents m c)) (aLg (StableHlo.launchContents m c)) (aLb (StableHlo.launchContents m c)) (aWo (StableHlo.launchContents m c)) (aUp (StableHlo.launchContents m c)) (aDown (StableHlo.launchContents m c)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ⟨(h c).1.trans ?_, (h c).2⟩) (Cert.BackRefIdeal.Value.run m ρ)
  clear h
  funext i
  obtain ⟨b, n, k, rfl⟩ : ∃ (b : Fin 4) (n : Fin 4352) (k : Fin 1024), i = ix3 b n k := ⟨i 0, i 1, i 2, eq_ix3 i⟩
  clean_types
  by_cases hn : n.val < 256
  · pointwise [gateX_eq, gateC_eq, upX_eq, upC_eq, mixX_eq, mixC_eq, rowMul, gated, back_lo _ b n hn, hn, backC, halfStep]
  · pointwise [gateX_eq, gateC_eq, upX_eq, upC_eq, mixX_eq, mixC_eq, rowMul, gated, back_hi _ b n hn, hn, backX, halfStep]

end Cert.BackRef

end
-- ==== Proof.Back.Claim.lean ====
/- The back agrees with its reference: both end at the layer's function of the arguments. -/
module

public import proofs.«01_k».proof.Defs
public import proofs.«01_k».proof.Proof.Back.Arrays
public import proofs.«01_k».proof.Proof.Back.Ref

@[expose] public section

set_option maxRecDepth 16384

noncomputable section

namespace Cert.Back

open Idealize.ShloMosaic Idealize.ShloMosaic.TcCoe Idealize.SL.Sem

section

variable {x0 x0' : (⟨3, ![4, 4352, 1024]⟩ : Shape).Idx → EReal}
  {x1 x1' : (⟨3, ![4, 9, 1024]⟩ : Shape).Idx → EReal}
  {x2 x2' : (⟨3, ![1, 9, 1024]⟩ : Shape).Idx → EReal}
  {x3 x3' : (⟨2, ![3, 1024]⟩ : Shape).Idx → EReal}
  {x4 x4' : (⟨3, ![4, 4352, 512]⟩ : Shape).Idx → EReal}
  {x5 x5' : (⟨3, ![4, 4352, 512]⟩ : Shape).Idx → EReal}
  {x6 x6' : (⟨3, ![4, 4352, 512]⟩ : Shape).Idx → EReal}
  {x7 x7' : (⟨3, ![4, 4352, 512]⟩ : Shape).Idx → EReal}
  {x8 x8' : (⟨3, ![4, 4352, 512]⟩ : Shape).Idx → EReal}
  {x9 x9' : (⟨1, ![512]⟩ : Shape).Idx → EReal}
  {x10 x10' : (⟨1, ![512]⟩ : Shape).Idx → EReal}
  {x11 x11' : (⟨3, ![4, 1024, 1024]⟩ : Shape).Idx → EReal}
  {x12 x12' : (⟨4, ![4, 2, 1024, 5632]⟩ : Shape).Idx → EReal}
  {x13 x13' : (⟨4, ![4, 2, 2816, 1024]⟩ : Shape).Idx → EReal}

/-- The back's functions of equal arguments are equal. -/
theorem row_congr (h0 : x0 = x0') (h1 : x1 = x1') (h2 : x2 = x2') (h3 : x3 = x3') (h4 : x4 = x4') (h5 : x5 = x5') (h6 : x6 = x6') (h7 : x7 = x7') (h8 : x8 = x8') (h9 : x9 = x9') (h10 : x10 = x10') (h11 : x11 = x11') (h12 : x12 = x12') (h13 : x13 = x13') :
    Layer.backRow x0 x1 x2 x3 x4 x5 x6 x7 x8 x9 x10 x11 x12 x13 = Layer.backRow x0' x1' x2' x3' x4' x5' x6' x7' x8' x9' x10' x11' x12' x13' := by
  subst h0 h1 h2 h3 h4 h5 h6 h7 h8 h9 h10 h11 h12 h13; rfl

end

/-- At the ideal instance the back and its reference, from memories that agree on the arguments, end with equal results. -/
theorem algebraic : @Cert.algebraic_BackIdeal_BackRefIdeal Cert.BackIdeal.Gen.facts Cert.BackRefIdeal.Gen.facts := by
  intro m g m' g' _ hagree
  refine ⟨fun c => res13 m c, ?_, ?_⟩
  · exact (θ_run _ _ _).mono (fun r h c => ⟨(h c).1.trans (arr13 m c), (h c).2⟩) (Cert.BackIdeal.Value.run_blocks m g)
  · refine (θ_run _ _ _).mono (fun r h c => ?_) (Cert.BackRef.run_back m' g')
    obtain ⟨h0, hk⟩ := h c
    obtain ⟨a0, a1, a2, a3, a4, a5, a6, a7, a8, a9, a10, a11, a12, a13⟩ := hagree c
    refine ⟨h0.trans ?_, hk⟩
    clear h0 hk
    exact funext fun i => congrFun (congrFun (congrFun (row_congr a0 a1 a2 a3 a4 a5 a6 a7 a8 a9 a10 a11 a12 a13) (i 0)) (i 1)) (i 2)

end Cert.Back

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.FrontIdeal.Value
public import proofs.«01_k».proof.Proof.Gen.BackIdeal.Value
public import proofs.«01_k».proof.Proof.Gen.RefIdeal.Run
public import proofs.«01_k».proof.Proof.Gen.FrontRefIdeal.Run
public import proofs.«01_k».proof.Proof.Gen.FrontRefIdeal.Read
public import proofs.«01_k».proof.Proof.Gen.BackRefIdeal.Run
public import proofs.«01_k».proof.Proof.Gen.BackRefIdeal.Read
public import proofs.«01_k».proof.Proof.Attn.Bits
public import proofs.«01_k».proof.Proof.Attn.IdealFrame
public import proofs.«01_k».proof.Proof.Front.Claim
public import proofs.«01_k».proof.Proof.Back.Claim
public import Idealize.ShloMosaic.Adequacy
public import Idealize.ShloMosaic.Init

@[expose] public section

noncomputable section

namespace Cert.Proof

open Idealize.ShloMosaic Idealize.SL.Sem Cert.Kernel

/-- The frame and the idealization claims of the three calls, their references' frames, and the calls' agreement with
    their references. -/
theorem claim : Cert.Claim :=
  ⟨Cert.Kernel.Gen.facts, Cert.KernelIdeal.Gen.facts, Cert.RefIdeal.Gen.facts, Cert.Front.Gen.facts,
    Cert.FrontIdeal.Gen.facts, Cert.FrontRefIdeal.Gen.facts, Cert.Back.Gen.facts, Cert.BackIdeal.Gen.facts,
    Cert.BackRefIdeal.Gen.facts,
    fun m ρ _ => Cert.Kernel.Attn.attn_frame m ρ,
    fun m ρ _ => Cert.KernelIdeal.Attn.attn_frame m ρ,
    fun m ρ _ => (θ_run _ _ _).mono (fun r h => ⟨fun c => (h c).2, funext fun s => nomatch s⟩) (Cert.RefIdeal.Value.run m ρ),
    fun m ρ _ => Cert.Front.Gen.frame m ρ,
    fun m ρ _ => Cert.FrontIdeal.Gen.frame m ρ,
    fun m ρ _ => (θ_run _ _ _).mono (fun r h => ⟨fun c => (h c).2.2.2.2.2, funext fun s => nomatch s⟩) (Cert.FrontRefIdeal.Value.run m ρ),
    fun m ρ _ => Cert.Back.Gen.frame m ρ,
    fun m ρ _ => Cert.BackIdeal.Gen.frame m ρ,
    fun m ρ _ => (θ_run _ _ _).mono (fun r h => ⟨fun c => (h c).2, funext fun s => nomatch s⟩) (Cert.BackRefIdeal.Value.run m ρ),
    IdealRules.named_const.statement Cert.KernelIdeal.κ "mask" .f32 0xF149F2CA#32 ⊥ rfl, trivial, Cert.Front.algebraic, trivial, Cert.Back.algebraic⟩

end Cert.Proof

end
